-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_above_minus_infinity [hPre_above_minus_infinity : Cert.Pre_above_minus_infinity.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_above_minus_infinity.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_above_minus_infinity [hPre_above_minus_infinity : Cert.Pre_above_minus_infinity.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_above_minus_infinity.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_above_minus_infinity [hKernel4Ideal : Cert.Kernel4Ideal.Facts] [hPre_above_minus_infinity : Cert.Pre_above_minus_infinity.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_above_minus_infinity m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_above_minus_infinity [hReference4Ideal : Cert.Reference4Ideal.Facts] [hPre_above_minus_infinity : Cert.Pre_above_minus_infinity.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_above_minus_infinity m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_v57) = v4 c
          ∧ r.2.mem ((c.tc : Thread Cert.Reference2Ideal.nD Cert.Reference2Ideal.τ).loc Cert.Reference2Ideal.main_v58) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_above_minus_infinity [hKernel4Ideal : Cert.Kernel4Ideal.Facts] [hReference4Ideal : Cert.Reference4Ideal.Facts] [hPre_above_minus_infinity : Cert.Pre_above_minus_infinity.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_above_minus_infinity m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_above_minus_infinity : Cert.Pre_above_minus_infinity.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_above_minus_infinity (hKernel4Ideal := hKernel4Ideal) (hPre_above_minus_infinity := hPre_above_minus_infinity)
    ∧ quiescent_Reference4Ideal (hReference4Ideal := hReference4Ideal)
    ∧ quiescent_Reference4Ideal_pre_above_minus_infinity (hReference4Ideal := hReference4Ideal) (hPre_above_minus_infinity := hPre_above_minus_infinity)
    ∧ quiescent_Kernel5 (hKernel5 := hKernel5)
    ∧ quiescent_Kernel5Ideal (hKernel5Ideal := hKernel5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_above_minus_infinity (hKernel4Ideal := hKernel4Ideal) (hReference4Ideal := hReference4Ideal) (hPre_above_minus_infinity := hPre_above_minus_infinity)
    ∧ preserves_Kernel5_Kernel5Ideal
-- ==== Pre_above_minus_infinity.lean ====
abbrev S16x1024 : Shape := ⟨2, ![16, 1024]⟩
abbrev S1024x3072 : Shape := ⟨2, ![1024, 3072]⟩
abbrev S3072 : Shape := ⟨1, ![3072]⟩
abbrev S_ : Shape := ⟨0, ![]⟩

class Facts : Prop where
  bcast_S_S16x1024 : S_.BroadcastsInDim S16x1024 (![] : Fin 0 → Fin S16x1024.rank)

variable [Facts]

def fn {F : FTy → Type} [FloatOps F] (main_arg0 : FVec F S16x1024 .f32) (main_arg1 : FVec F S1024x3072 .f32) (main_arg2 : FVec F S3072 .f32) : IVec S16x1024 1 :=
  let main_cst : FVec F S_ .f32 := constant S_ .f32 0xFF800000#32
  let main_v0 : FVec F S16x1024 .f32 := broadcastInDim S16x1024 ![] bcast_S_S16x1024 main_cst
  let main_v1 : IVec S16x1024 1 := cmpf .ogt main_arg0 main_v0
  main_v1
-- ==== Kernel.lean ====
abbrev S16x4096x2560 : Shape := ⟨3, ![16, 4096, 2560]⟩
abbrev S16x4096x8 : Shape := ⟨3, ![16, 4096, 8]⟩
abbrev S4x1024 : Shape := ⟨2, ![4, 1024]⟩
abbrev S1024 : Shape := ⟨1, ![1024]⟩
abbrev S4 : Shape := ⟨1, ![4]⟩
abbrev S4x128 : Shape := ⟨2, ![4, 128]⟩
abbrev S8 : Shape := ⟨1, ![8]⟩
abbrev S_ : Shape := ⟨0, ![]⟩
abbrev S128 : Shape := ⟨1, ![128]⟩
abbrev S1x128 : Shape := ⟨2, ![1, 128]⟩
abbrev S16x8x4096 : Shape := ⟨3, ![16, 8, 4096]⟩
abbrev S1x1024 : Shape := ⟨2, ![1, 1024]⟩
abbrev S1x512 : Shape := ⟨2, ![1, 512]⟩
abbrev S16x4096x512 : Shape := ⟨3, ![16, 4096, 512]⟩
abbrev S1x512x1024 : Shape := ⟨3, ![1, 512, 1024]⟩
abbrev S1x512x512 : Shape := ⟨3, ![1, 512, 512]⟩
abbrev S1x8x512 : Shape := ⟨3, ![1, 8, 512]⟩
abbrev S8x1024 : Shape := ⟨2, ![8, 1024]⟩
abbrev S512x512 : Shape := ⟨2, ![512, 512]⟩
abbrev S32x4x64x128 : Shape := ⟨4, ![32, 4, 64, 128]⟩
abbrev S32x64x64 : Shape := ⟨3, ![32, 64, 64]⟩
abbrev S32x128x128 : Shape := ⟨3, ![32, 128, 128]⟩
abbrev S32x8x128 : Shape := ⟨3, ![32, 8, 128]⟩
abbrev S32x256x128 : Shape := ⟨3, ![32, 256, 128]⟩
abbrev S32x64x128 : Shape := ⟨3, ![32, 64, 128]⟩
abbrev S4x128x128 : Shape := ⟨3, ![4, 128, 128]⟩
abbrev S8x128 : Shape := ⟨2, ![8, 128]⟩
abbrev S512x1024 : Shape := ⟨2, ![512, 1024]⟩
abbrev S504x1024 : Shape := ⟨2, ![504, 1024]⟩
abbrev S8x512 : Shape := ⟨2, ![8, 512]⟩
abbrev S120x512 : Shape := ⟨2, ![120, 512]⟩
abbrev S128x512 : Shape := ⟨2, ![128, 512]⟩
abbrev S512x128 : Shape := ⟨2, ![512, 128]⟩
abbrev S64x128 : Shape := ⟨2, ![64, 128]⟩
abbrev S64x1 : Shape := ⟨2, ![64, 1]⟩
abbrev S1x1x64x128 : Shape := ⟨4, ![1, 1, 64, 128]⟩
abbrev S64x64 : Shape := ⟨2, ![64, 64]⟩
abbrev S16x64 : Shape := ⟨2, ![16, 64]⟩
abbrev S1x64 : Shape := ⟨2, ![1, 64]⟩
abbrev S1x64x64 : Shape := ⟨3, ![1, 64, 64]⟩
abbrev S1x64x128 : Shape := ⟨3, ![1, 64, 128]⟩
abbrev S128x128 : Shape := ⟨2, ![128, 128]⟩
abbrev S1x128x128 : Shape := ⟨3, ![1, 128, 128]⟩
abbrev S16x128 : Shape := ⟨2, ![16, 128]⟩
abbrev S1x8x128 : Shape := ⟨3, ![1, 8, 128]⟩
abbrev S1x1 : Shape := ⟨2, ![1, 1]⟩
abbrev S1x1x128 : Shape := ⟨3, ![1, 1, 128]⟩
abbrev S1x256x128 : Shape := ⟨3, ![1, 256, 128]⟩
abbrev S256x128 : Shape := ⟨2, ![256, 128]⟩
abbrev S64x256 : Shape := ⟨2, ![64, 256]⟩

abbrev nBuf : Space → Nat
  | .hbm => 17
  | .vmem => 29
  | .smem => 0
  | _ => 0

abbrev bufTy : (tb : Table) → Fin (tcTables nBuf tb) → BufTy
  | .hbm, ⟨0, _⟩ => ⟨S16x4096x2560, .f32⟩
  | .hbm, ⟨1, _⟩ => ⟨S16x4096x8, .f32⟩
  | .hbm, ⟨2, _⟩ => ⟨S4x1024, .f32⟩
  | .hbm, ⟨3, _⟩ => ⟨S1024, .f32⟩
  | .hbm, ⟨4, _⟩ => ⟨S4, .f32⟩
  | .hbm, ⟨5, _⟩ => ⟨S4, .f32⟩
  | .hbm, ⟨6, _⟩ => ⟨S4x128, .f32⟩
  | .hbm, ⟨7, _⟩ => ⟨S8, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S16x4096x2560, .bf16⟩
  | .hbm, ⟨13, _⟩ => ⟨S16x8x4096, .f32⟩
  | .hbm, ⟨14, _⟩ => ⟨S1x1024, .f32⟩
  | .hbm, ⟨15, _⟩ => ⟨S1x512, .f32⟩
  | .hbm, ⟨16, _⟩ => ⟨S16x4096x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x8x512, .f32⟩
  | .local _ .vmem, ⟨9, _⟩ => ⟨S1x8x512, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x512, .f32⟩
  | .local _ .vmem, ⟨14, _⟩ => ⟨S1x512x512, .bf16⟩
  | .local _ .vmem, ⟨15, _⟩ => ⟨S1x512x512, .bf16⟩
  | .local _ .vmem, ⟨16, _⟩ => ⟨S8x1024, .f32⟩
  | .local _ .vmem, ⟨17, _⟩ => ⟨S512x512, .bf16⟩
  | .local _ .vmem, ⟨18, _⟩ => ⟨S512x512, .f32⟩
  | .local _ .vmem, ⟨19, _⟩ => ⟨S32x4x64x128, .f32⟩
  | .local _ .vmem, ⟨20, _⟩ => ⟨S32x64x64, .bf16⟩
  | .local _ .vmem, ⟨21, _⟩ => ⟨S32x128x128, .f32⟩
  | .local _ .vmem, ⟨22, _⟩ => ⟨S32x8x128, .f32⟩
  | .local _ .vmem, ⟨23, _⟩ => ⟨S32x256x128, .bf16⟩
  | .local _ .vmem, ⟨24, _⟩ => ⟨S32x64x128, .f32⟩
  | .local _ .vmem, ⟨25, _⟩ => ⟨S32x64x128, .bf16⟩
  | .local _ .vmem, ⟨26, _⟩ => ⟨S4x128x128, .f32⟩
  | .local _ .vmem, ⟨27, _⟩ => ⟨S8x128, .f32⟩
  | .local _ .vmem, ⟨28, _⟩ => ⟨S8x128, .f32⟩
  | _, _ => ⟨S16x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x4096x2560 : Shape := ⟨3, ![16, 4096, 2560]⟩
abbrev S16x4096x8 : Shape := ⟨3, ![16, 4096, 8]⟩
abbrev S4x1024 : Shape := ⟨2, ![4, 1024]⟩
abbrev S1024 : Shape := ⟨1, ![1024]⟩
abbrev S4 : Shape := ⟨1, ![4]⟩
abbrev S4x128 : Shape := ⟨2, ![4, 128]⟩
abbrev S16x4096x1024 : Shape := ⟨3, ![16, 4096, 1024]⟩
abbrev S16x4096x512 : Shape := ⟨3, ![16, 4096, 512]⟩
abbrev S_ : Shape := ⟨0, ![]⟩
abbrev S16x4099x1024 : Shape := ⟨3, ![16, 4099, 1024]⟩
abbrev S1x1024 : Shape := ⟨2, ![1, 1024]⟩
abbrev S1x1x1024 : Shape := ⟨3, ![1, 1, 1024]⟩
abbrev S16x4096x4 : Shape := ⟨3, ![16, 4096, 4]⟩
abbrev S1x1x4 : Shape := ⟨3, ![1, 1, 4]⟩
abbrev S16x4096x4x128 : Shape := ⟨4, ![16, 4096, 4, 128]⟩
abbrev S16x64x64x4x128 : Shape := ⟨5, ![16, 64, 64, 4, 128]⟩
abbrev S16x4x64x64x128 : Shape := ⟨5, ![16, 4, 64, 64, 128]⟩
abbrev S16x64x64x4 : Shape := ⟨4, ![16, 64, 64, 4]⟩
abbrev S16x4x64x64 : Shape := ⟨4, ![16, 4, 64, 64]⟩
abbrev S16x4x64x1 : Shape := ⟨4, ![16, 4, 64, 1]⟩
abbrev S16x4x64 : Shape := ⟨3, ![16, 4, 64]⟩
abbrev S16x4x64x64x1 : Shape := ⟨5, ![16, 4, 64, 64, 1]⟩
abbrev S16x4x64x128x128 : Shape := ⟨5, ![16, 4, 64, 128, 128]⟩
abbrev S16x4x64x128 : Shape := ⟨4, ![16, 4, 64, 128]⟩
abbrev S16x4x128x128 : Shape := ⟨4, ![16, 4, 128, 128]⟩
abbrev S16x4x128 : Shape := ⟨3, ![16, 4, 128]⟩
abbrev S16x4 : Shape := ⟨2, ![16, 4]⟩
abbrev S64x16x4 : Shape := ⟨3, ![64, 16, 4]⟩
abbrev S64x16x4x128x128 : Shape := ⟨5, ![64, 16, 4, 128, 128]⟩
abbrev S64x16x4x128 : Shape := ⟨4, ![64, 16, 4, 128]⟩
abbrev S1x16x4 : Shape := ⟨3, ![1, 16, 4]⟩
abbrev S1x16x4x128x128 : Shape := ⟨5, ![1, 16, 4, 128, 128]⟩
abbrev S1x16x4x128 : Shape := ⟨4, ![1, 16, 4, 128]⟩
abbrev S16x4x1x1 : Shape := ⟨4, ![16, 4, 1, 1]⟩
abbrev S16x4x1 : Shape := ⟨3, ![16, 4, 1]⟩
abbrev S64x64 : Shape := ⟨2, ![64, 64]⟩
abbrev S16x4x64x1x64 : Shape := ⟨5, ![16, 4, 64, 1, 64]⟩
abbrev S16x4x64x64x64 : Shape := ⟨5, ![16, 4, 64, 64, 64]⟩
abbrev S16x4096x4x1 : Shape := ⟨4, ![16, 4096, 4, 1]⟩
abbrev S1x1x4x128 : Shape := ⟨4, ![1, 1, 4, 128]⟩

abbrev nBuf : Space → Nat
  | .hbm => 305
  | .vmem => 0
  | .smem => 0
  | _ => 0

abbrev hbmTy0_0 (i : Nat) : BufTy := match i % 128 with
  | 0 => ⟨S16x4096x2560, .f32⟩
  | 1 => ⟨S16x4096x8, .f32⟩
  | 2 => ⟨S4x1024, .f32⟩
  | 3 => ⟨S1024, .f32⟩
  | 4 => ⟨S4, .f32⟩
  | 5 => ⟨S4, .f32⟩
  | 6 => ⟨S4x128, .f32⟩
  | 7 => ⟨S16x4096x1024, .f32⟩
  | 8 => ⟨S16x4096x512, .f32⟩
  | 9 => ⟨S16x4096x512, .f32⟩
  | 10 => ⟨S16x4096x512, .f32⟩
  | 11 => ⟨S_, .i32⟩
  | 12 => ⟨S_, .f32⟩
  | 13 => ⟨S16x4099x1024, .f32⟩
  | 14 => ⟨S16x4096x1024, .f32⟩
  | 15 => ⟨S1x1024, .f32⟩
  | 16 => ⟨S1024, .f32⟩
  | 17 => ⟨S1x1x1024, .f32⟩
  | 18 => ⟨S16x4096x1024, .f32⟩
  | 19 => ⟨S16x4096x1024, .f32⟩
  | 20 => ⟨S_, .f32⟩
  | 21 => ⟨S16x4096x1024, .f32⟩
  | 22 => ⟨S16x4096x1024, .f32⟩
  | 23 => ⟨S16x4096x1024, .f32⟩
  | 24 => ⟨S1x1024, .f32⟩
  | 25 => ⟨S1024, .f32⟩
  | 26 => ⟨S1x1x1024, .f32⟩
  | 27 => ⟨S16x4096x1024, .f32⟩
  | 28 => ⟨S16x4096x1024, .f32⟩
  | 29 => ⟨S16x4096x1024, .f32⟩
  | 30 => ⟨S16x4096x1024, .f32⟩
  | 31 => ⟨S1x1024, .f32⟩
  | 32 => ⟨S1024, .f32⟩
  | 33 => ⟨S1x1x1024, .f32⟩
  | 34 => ⟨S16x4096x1024, .f32⟩
  | 35 => ⟨S16x4096x1024, .f32⟩
  | 36 => ⟨S16x4096x1024, .f32⟩
  | 37 => ⟨S16x4096x1024, .f32⟩
  | 38 => ⟨S1x1024, .f32⟩
  | 39 => ⟨S1024, .f32⟩
  | 40 => ⟨S1x1x1024, .f32⟩
  | 41 => ⟨S16x4096x1024, .f32⟩
  | 42 => ⟨S16x4096x1024, .f32⟩
  | 43 => ⟨S16x4096x1024, .f32⟩
  | 44 => ⟨S1x1x1024, .f32⟩
  | 45 => ⟨S16x4096x1024, .f32⟩
  | 46 => ⟨S16x4096x1024, .f32⟩
  | 47 => ⟨S16x4096x1024, .f32⟩
  | 48 => ⟨S16x4096x1024, .f32⟩
  | 49 => ⟨S_, .f32⟩
  | 50 => ⟨S16x4096x1024, .f32⟩
  | 51 => ⟨S16x4096x1024, .f32⟩
  | 52 => ⟨S_, .f32⟩
  | 53 => ⟨S16x4096x1024, .f32⟩
  | 54 => ⟨S16x4096x1024, .f32⟩
  | 55 => ⟨S16x4096x1024, .f32⟩
  | 56 => ⟨S16x4096x512, .f32⟩
  | 57 => ⟨S16x4096x512, .f32⟩
  | 58 => ⟨S16x4096x4, .f32⟩
  | 59 => ⟨S1x1x4, .f32⟩
  | 60 => ⟨S16x4096x4, .f32⟩
  | 61 => ⟨S16x4096x4, .f32⟩
  | 62 => ⟨S16x4096x4, .f32⟩
  | 63 => ⟨S1x1x4, .f32⟩
  | 64 => ⟨S16x4096x4, .f32⟩
  | 65 => ⟨S16x4096x4, .f32⟩
  | 66 => ⟨S16x4096x4x128, .f32⟩
  | 67 => ⟨S16x64x64x4x128, .f32⟩
  | 68 => ⟨S16x4x64x64x128, .f32⟩
  | 69 => ⟨S16x4096x4x128, .f32⟩
  | 70 => ⟨S16x64x64x4x128, .f32⟩
  | 71 => ⟨S16x4x64x64x128, .f32⟩
  | 72 => ⟨S_, .f32⟩
  | 73 => ⟨S16x4x64x64x128, .f32⟩
  | 74 => ⟨S16x4x64x64x128, .f32⟩
  | 75 => ⟨S16x4096x4x128, .f32⟩
  | 76 => ⟨S16x64x64x4x128, .f32⟩
  | 77 => ⟨S16x4x64x64x128, .f32⟩
  | 78 => ⟨S16x64x64x4, .f32⟩
  | 79 => ⟨S16x4x64x64, .f32⟩
  | 80 => ⟨S16x64x64x4, .f32⟩
  | 81 => ⟨S16x4x64x64, .f32⟩
  | 82 => ⟨S16x4x64x64, .f32⟩
  | 83 => ⟨S_, .f32⟩
  | 84 => ⟨S16x4x64x64, .f32⟩
  | 85 => ⟨S16x4x64x64, .f32⟩
  | 86 => ⟨S16x4x64x64, .f32⟩
  | 87 => ⟨S16x4x64x64, .f32⟩
  | 88 => ⟨S16x4x64x64, .i1⟩
  | 89 => ⟨S16x4x64x64, .f32⟩
  | 90 => ⟨S16x4x64x64, .f32⟩
  | 91 => ⟨S16x4x64x64, .f32⟩
  | 92 => ⟨S16x4x64x64, .f32⟩
  | 93 => ⟨S16x4x64x64, .f32⟩
  | 94 => ⟨S16x4x64x64, .f32⟩
  | 95 => ⟨S16x4x64x64, .f32⟩
  | 96 => ⟨S16x4x64x64, .f32⟩
  | 97 => ⟨S16x4x64x64, .f32⟩
  | 98 => ⟨S_, .f32⟩
  | 99 => ⟨S_, .f32⟩
  | 100 => ⟨S16x4x64x64, .f32⟩
  | 101 => ⟨S16x4x64x1, .f32⟩
  | 102 => ⟨S16x4x64, .f32⟩
  | 103 => ⟨S16x4x64x1, .f32⟩
  | 104 => ⟨S16x4x64x64, .f32⟩
  | 105 => ⟨S16x4x64x64, .f32⟩
  | 106 => ⟨S16x4x64x64, .f32⟩
  | 107 => ⟨S_, .f32⟩
  | 108 => ⟨S16x4x64, .f32⟩
  | 109 => ⟨S16x4x64x1, .f32⟩
  | 110 => ⟨S16x4x64x64, .f32⟩
  | 111 => ⟨S16x4x64x64, .f32⟩
  | 112 => ⟨S16x4x64x64, .f32⟩
  | 113 => ⟨S16x4x64x64x1, .f32⟩
  | 114 => ⟨S16x4x64x64x128, .f32⟩
  | 115 => ⟨S16x4x64x64x128, .f32⟩
  | 116 => ⟨S16x4x64x128x128, .f32⟩
  | 117 => ⟨S_, .f32⟩
  | 118 => ⟨S16x4x64x128, .f32⟩
  | 119 => ⟨S_, .f32⟩
  | 120 => ⟨S16x4x128x128, .f32⟩
  | 121 => ⟨S_, .f32⟩
  | 122 => ⟨S16x4x128, .f32⟩
  | 123 => ⟨S_, .f32⟩
  | 124 => ⟨S16x4, .f32⟩
  | 125 => ⟨S64x16x4, .f32⟩
  | 126 => ⟨S64x16x4, .f32⟩
  | 127 => ⟨S64x16x4x128x128, .f32⟩
  | _ => ⟨S16x4096x2560, .f32⟩

abbrev hbmTy0_1 (i : Nat) : BufTy := match i % 128 with
  | 0 => ⟨S64x16x4x128, .f32⟩
  | 1 => ⟨S_, .f32⟩
  | 2 => ⟨S64x16x4x128x128, .f32⟩
  | 3 => ⟨S_, .f32⟩
  | 4 => ⟨S64x16x4x128, .f32⟩
  | 5 => ⟨S_, .f32⟩
  | 6 => ⟨S64x16x4, .f32⟩
  | 7 => ⟨S_, .i32⟩
  | 8 => ⟨S64x16x4, .f32⟩
  | 9 => ⟨S64x16x4, .f32⟩
  | 10 => ⟨S64x16x4x128x128, .f32⟩
  | 11 => ⟨S64x16x4x128, .f32⟩
  | 12 => ⟨S_, .i32⟩
  | 13 => ⟨S16x4x128x128, .f32⟩
  | 14 => ⟨S16x4x128, .f32⟩
  | 15 => ⟨S16x4, .f32⟩
  | 16 => ⟨S64x16x4x128x128, .f32⟩
  | 17 => ⟨S64x16x4x128, .f32⟩
  | 18 => ⟨S64x16x4, .f32⟩
  | 19 => ⟨S_, .i32⟩
  | 20 => ⟨S_, .i1⟩
  | 21 => ⟨S_, .i32⟩
  | 22 => ⟨S_, .i32⟩
  | 23 => ⟨S1x16x4, .f32⟩
  | 24 => ⟨S16x4, .f32⟩
  | 25 => ⟨S_, .i32⟩
  | 26 => ⟨S_, .i32⟩
  | 27 => ⟨S1x16x4, .f32⟩
  | 28 => ⟨S16x4, .f32⟩
  | 29 => ⟨S_, .i32⟩
  | 30 => ⟨S_, .i32⟩
  | 31 => ⟨S_, .i32⟩
  | 32 => ⟨S_, .i32⟩
  | 33 => ⟨S1x16x4x128x128, .f32⟩
  | 34 => ⟨S16x4x128x128, .f32⟩
  | 35 => ⟨S_, .i32⟩
  | 36 => ⟨S_, .i32⟩
  | 37 => ⟨S_, .i32⟩
  | 38 => ⟨S1x16x4x128, .f32⟩
  | 39 => ⟨S16x4x128, .f32⟩
  | 40 => ⟨S16x4, .f32⟩
  | 41 => ⟨S16x4, .f32⟩
  | 42 => ⟨S16x4, .f32⟩
  | 43 => ⟨S16x4, .f32⟩
  | 44 => ⟨S16x4, .f32⟩
  | 45 => ⟨S16x4, .f32⟩
  | 46 => ⟨S16x4, .f32⟩
  | 47 => ⟨S16x4x1x1, .f32⟩
  | 48 => ⟨S16x4x128x128, .f32⟩
  | 49 => ⟨S16x4x128x128, .f32⟩
  | 50 => ⟨S16x4x1x1, .f32⟩
  | 51 => ⟨S16x4x128x128, .f32⟩
  | 52 => ⟨S16x4x128x128, .f32⟩
  | 53 => ⟨S16x4x128x128, .f32⟩
  | 54 => ⟨S16x4x1, .f32⟩
  | 55 => ⟨S16x4x128, .f32⟩
  | 56 => ⟨S16x4x128, .f32⟩
  | 57 => ⟨S16x4x1, .f32⟩
  | 58 => ⟨S16x4x128, .f32⟩
  | 59 => ⟨S16x4x128, .f32⟩
  | 60 => ⟨S16x4x128, .f32⟩
  | 61 => ⟨S1x16x4x128x128, .f32⟩
  | 62 => ⟨S_, .i32⟩
  | 63 => ⟨S_, .i32⟩
  | 64 => ⟨S_, .i32⟩
  | 65 => ⟨S_, .i32⟩
  | 66 => ⟨S64x16x4x128x128, .f32⟩
  | 67 => ⟨S1x16x4x128, .f32⟩
  | 68 => ⟨S_, .i32⟩
  | 69 => ⟨S_, .i32⟩
  | 70 => ⟨S_, .i32⟩
  | 71 => ⟨S64x16x4x128, .f32⟩
  | 72 => ⟨S1x16x4, .f32⟩
  | 73 => ⟨S_, .i32⟩
  | 74 => ⟨S_, .i32⟩
  | 75 => ⟨S64x16x4, .f32⟩
  | 76 => ⟨S_, .i32⟩
  | 77 => ⟨S_, .i32⟩
  | 78 => ⟨S16x4x64x128x128, .f32⟩
  | 79 => ⟨S16x4x64x128, .f32⟩
  | 80 => ⟨S16x4x64, .f32⟩
  | 81 => ⟨S_, .i1⟩
  | 82 => ⟨S64x64, .i1⟩
  | 83 => ⟨S64x64, .i32⟩
  | 84 => ⟨S_, .i32⟩
  | 85 => ⟨S64x64, .i32⟩
  | 86 => ⟨S64x64, .i32⟩
  | 87 => ⟨S64x64, .i32⟩
  | 88 => ⟨S64x64, .i1⟩
  | 89 => ⟨S_, .i1⟩
  | 90 => ⟨S64x64, .i1⟩
  | 91 => ⟨S64x64, .i1⟩
  | 92 => ⟨S16x4x64x64x1, .f32⟩
  | 93 => ⟨S16x4x64x1x64, .f32⟩
  | 94 => ⟨S16x4x64x64x64, .f32⟩
  | 95 => ⟨S16x4x64x64x64, .f32⟩
  | 96 => ⟨S16x4x64x64x64, .f32⟩
  | 97 => ⟨S16x4x64x1x64, .f32⟩
  | 98 => ⟨S16x4x64x64x64, .f32⟩
  | 99 => ⟨S16x4x64x64x64, .f32⟩
  | 100 => ⟨S_, .f32⟩
  | 101 => ⟨S_, .f32⟩
  | 102 => ⟨S16x4x64x64x64, .i1⟩
  | 103 => ⟨S16x4x64x64x64, .f32⟩
  | 104 => ⟨S16x4x64x64x64, .f32⟩
  | 105 => ⟨S16x4x64x1, .f32⟩
  | 106 => ⟨S16x4x64x64, .f32⟩
  | 107 => ⟨S16x4x64x64, .f32⟩
  | 108 => ⟨S_, .f32⟩
  | 109 => ⟨S16x4x64x64, .f32⟩
  | 110 => ⟨S16x4x64x64, .f32⟩
  | 111 => ⟨S16x4x64x64x1, .f32⟩
  | 112 => ⟨S16x4x64x64x64, .f32⟩
  | 113 => ⟨S16x4x64x64x64, .f32⟩
  | 114 => ⟨S16x4x64x64x64, .f32⟩
  | 115 => ⟨S16x4x64x64, .f32⟩
  | 116 => ⟨S16x4x64x64, .f32⟩
  | 117 => ⟨S16x4x64x64x64, .f32⟩
  | 118 => ⟨S16x4x64x64x64, .f32⟩
  | 119 => ⟨S16x4x64x64x1, .f32⟩
  | 120 => ⟨S16x4x64x64x128, .f32⟩
  | 121 => ⟨S16x4x64x64x128, .f32⟩
  | 122 => ⟨S16x4x64x64x128, .f32⟩
  | 123 => ⟨S16x4x64x64x128, .f32⟩
  | 124 => ⟨S16x4x64x64x128, .f32⟩
  | 125 => ⟨S16x4x64x64, .f32⟩
  | 126 => ⟨S16x4x64x64, .f32⟩
  | 127 => ⟨S_, .f32⟩
  | _ => ⟨S16x4096x2560, .f32⟩

abbrev hbmTy0_2 (i : Nat) : BufTy := match i % 128 with
  | 0 => ⟨S16x4x64x64, .f32⟩
  | 1 => ⟨S16x4x64x64, .f32⟩
  | 2 => ⟨S16x4x64x64, .f32⟩
  | 3 => ⟨S16x4x64x64, .f32⟩
  | 4 => ⟨S16x4x64x64, .f32⟩
  | 5 => ⟨S16x4x64x64, .f32⟩
  | 6 => ⟨S16x4x64x64x1, .f32⟩
  | 7 => ⟨S16x4x64x64x128, .f32⟩
  | 8 => ⟨S16x4x64x64x128, .f32⟩
  | 9 => ⟨S16x64x64x4x128, .f32⟩
  | 10 => ⟨S16x4096x4x128, .f32⟩
  | 11 => ⟨S16x4096x4x128, .f32⟩
  | 12 => ⟨S16x4096x4x128, .f32⟩
  | 13 => ⟨S16x4096x4x128, .f32⟩
  | 14 => ⟨S_, .f32⟩
  | 15 => ⟨S16x4096x4x128, .f32⟩
  | 16 => ⟨S16x4096x4x128, .f32⟩
  | 17 => ⟨S_, .f32⟩
  | 18 => ⟨S16x4096x4x128, .f32⟩
  | 19 => ⟨S16x4096x4x128, .f32⟩
  | 20 => ⟨S16x4096x4x128, .f32⟩
  | 21 => ⟨S16x4096x4x128, .f32⟩
  | 22 => ⟨S_, .f32⟩
  | 23 => ⟨S16x4096x4, .f32⟩
  | 24 => ⟨S16x4096x4x1, .f32⟩
  | 25 => ⟨S_, .f32⟩
  | 26 => ⟨S16x4096x4x1, .f32⟩
  | 27 => ⟨S16x4096x4x1, .f32⟩
  | 28 => ⟨S_, .f32⟩
  | 29 => ⟨S16x4096x4x1, .f32⟩
  | 30 => ⟨S16x4096x4x1, .f32⟩
  | 31 => ⟨S16x4096x4x1, .f32⟩
  | 32 => ⟨S16x4096x4x128, .f32⟩
  | 33 => ⟨S16x4096x4x128, .f32⟩
  | 34 => ⟨S1x1x4x128, .f32⟩
  | 35 => ⟨S16x4096x4x128, .f32⟩
  | 36 => ⟨S16x4096x4x128, .f32⟩
  | 37 => ⟨S16x4096x512, .f32⟩
  | 38 => ⟨S16x4096x512, .f32⟩
  | 39 => ⟨S16x4096x512, .f32⟩
  | 40 => ⟨S_, .f32⟩
  | 41 => ⟨S16x4096x512, .f32⟩
  | 42 => ⟨S16x4096x512, .f32⟩
  | 43 => ⟨S_, .f32⟩
  | 44 => ⟨S16x4096x512, .f32⟩
  | 45 => ⟨S16x4096x512, .f32⟩
  | 46 => ⟨S16x4096x512, .f32⟩
  | 47 => ⟨S16x4096x512, .f32⟩
  | 48 => ⟨S16x4096x512, .bf16⟩
  | _ => ⟨S16x4096x2560, .f32⟩

abbrev hbmTy (i : Nat) : BufTy := match i / 128 with
  | 0 => hbmTy0_0 i
  | 1 => hbmTy0_1 i
  | 2 => hbmTy0_2 i
  | _ => ⟨S16x4096x2560, .f32⟩

abbrev bufTy : (tb : Table) → Fin (tcTables nBuf tb) → BufTy
  | .hbm, ⟨i, _⟩ => hbmTy i
  | _, _ => ⟨S16x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_0 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call2_v0 : Ref sig .tc := ⟨.hbm, 82, rfl⟩
abbrev main_call2_call0_cst : Ref sig .tc := ⟨.hbm, 83, rfl⟩
abbrev main_call2_call0_v0 : Ref sig .tc := ⟨.hbm, 84, rfl⟩
abbrev main_call2_call0_v1 : Ref sig .tc := ⟨.hbm, 85, rfl⟩
abbrev main_call2_call0_v2 : Ref sig .tc := ⟨.hbm, 86, rfl⟩
abbrev main_call2_call0_v3 : Ref sig .tc := ⟨.hbm, 87, rfl⟩
abbrev main_call2_call0_v4 : Ref sig .tc := ⟨.hbm, 88, rfl⟩
abbrev main_call2_call0_v5 : Ref sig .tc := ⟨.hbm, 89, rfl⟩
abbrev main_call2_call0_v6 : Ref sig .tc := ⟨.hbm, 90, rfl⟩
abbrev main_call2_call0_v7 : Ref sig .tc := ⟨.hbm, 91, rfl⟩
abbrev main_call2_call0_v8 : Ref sig .tc := ⟨.hbm, 92, rfl⟩
abbrev main_call2_call0_v9 : Ref sig .tc := ⟨.hbm, 93, rfl⟩
abbrev main_call2_call0_v10 : Ref sig .tc := ⟨.hbm, 94, rfl⟩
abbrev main_call2_call0_v11 : Ref sig .tc := ⟨.hbm, 95, rfl⟩
abbrev main_call2_v1 : Ref sig .tc := ⟨.hbm, 96, rfl⟩
abbrev main_v63 : Ref sig .tc := ⟨.hbm, 97, rfl⟩
abbrev main_call3_call0_cst : Ref sig .tc := ⟨.hbm, 98, rfl⟩
abbrev main_call3_call0_v0 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_1 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_2 : Ref sig .tc := ⟨.hbm, 117, rfl⟩
abbrev main_v80 : Ref sig .tc := ⟨.hbm, 118, rfl⟩
abbrev main_cst_3 : Ref sig .tc := ⟨.hbm, 119, rfl⟩
abbrev main_v81 : Ref sig .tc := ⟨.hbm, 120, rfl⟩
abbrev main_cst_4 : Ref sig .tc := ⟨.hbm, 121, rfl⟩
abbrev main_v82 : Ref sig .tc := ⟨.hbm, 122, rfl⟩
abbrev main_cst_5 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_6 : Ref sig .tc := ⟨.hbm, 129, rfl⟩
abbrev main_v88 : Ref sig .tc := ⟨.hbm, 130, rfl⟩
abbrev main_cst_7 : Ref sig .tc := ⟨.hbm, 131, rfl⟩
abbrev main_v89 : Ref sig .tc := ⟨.hbm, 132, rfl⟩
abbrev main_cst_8 : Ref sig .tc := ⟨.hbm, 133, rfl⟩
abbrev main_v90 : Ref sig .tc := ⟨.hbm, 134, rfl⟩
abbrev main_c_9 : Ref sig .tc := ⟨.hbm, 135, rfl⟩
abbrev main_v91_0 : Ref sig .tc := ⟨.hbm, 136, rfl⟩
abbrev main_v91_1 : Ref sig .tc := ⟨.hbm, 137, rfl⟩
abbrev main_v91_2 : Ref sig .tc := ⟨.hbm, 138, rfl⟩
abbrev main_v91_3 : Ref sig .tc := ⟨.hbm, 139, rfl⟩
abbrev main_v91_4 : Ref sig .tc := ⟨.hbm, 140, rfl⟩
abbrev main_v91_5 : Ref sig .tc := ⟨.hbm, 141, rfl⟩
abbrev main_v91_6 : Ref sig .tc := ⟨.hbm, 142, rfl⟩
abbrev main_v91_7 : Ref sig .tc := ⟨.hbm, 143, rfl⟩
abbrev main_v91_8 : Ref sig .tc := ⟨.hbm, 144, rfl⟩
abbrev main_v91_9 : Ref sig .tc := ⟨.hbm, 145, rfl⟩
abbrev main_v91_10 : Ref sig .tc := ⟨.hbm, 146, rfl⟩
abbrev main_while0c_c_29 : Ref sig .tc := ⟨.hbm, 147, rfl⟩
abbrev main_while0c_v163 : Ref sig .tc := ⟨.hbm, 148, rfl⟩
abbrev main_while0b_call4_c : Ref sig .tc := ⟨.hbm, 149, rfl⟩
abbrev main_while0b_call4_c_0 : Ref sig .tc := ⟨.hbm, 150, rfl⟩
abbrev main_while0b_call4_v0 : Ref sig .tc := ⟨.hbm, 151, rfl⟩
abbrev main_while0b_v163 : Ref sig .tc := ⟨.hbm, 152, rfl⟩
abbrev main_while0b_call5_c : Ref sig .tc := ⟨.hbm, 153, rfl⟩
abbrev main_while0b_call5_c_0 : Ref sig .tc := ⟨.hbm, 154, rfl⟩
abbrev main_while0b_call5_v0 : Ref sig .tc := ⟨.hbm, 155, rfl⟩
abbrev main_while0b_v164 : Ref sig .tc := ⟨.hbm, 156, rfl⟩
abbrev main_while0b_call6_c : Ref sig .tc := ⟨.hbm, 157, rfl⟩
abbrev main_while0b_call6_c_0 : Ref sig .tc := ⟨.hbm, 158, rfl⟩
abbrev main_while0b_call6_c_1 : Ref sig .tc := ⟨.hbm, 159, rfl⟩
abbrev main_while0b_call6_c_2 : Ref sig .tc := ⟨.hbm, 160, rfl⟩
abbrev main_while0b_call6_v0 : Ref sig .tc := ⟨.hbm, 161, rfl⟩
abbrev main_while0b_v165 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_v0 : Ref sig .tc := ⟨.hbm, 166, rfl⟩
abbrev main_while0b_v166 : Ref sig .tc := ⟨.hbm, 167, rfl⟩
abbrev main_while0b_v167 : Ref sig .tc := ⟨.hbm, 168, rfl⟩
abbrev main_while0b_v168 : Ref sig .tc := ⟨.hbm, 169, rfl⟩
abbrev main_while0b_v169 : Ref sig .tc := ⟨.hbm, 170, rfl⟩
abbrev main_while0b_v170 : Ref sig .tc := ⟨.hbm, 171, rfl⟩
abbrev main_while0b_v171 : Ref sig .tc := ⟨.hbm, 172, rfl⟩
abbrev main_while0b_v172 : Ref sig .tc := ⟨.hbm, 173, rfl⟩
abbrev main_while0b_v173 : Ref sig .tc := ⟨.hbm, 174, rfl⟩
abbrev main_while0b_v174 : Ref sig .tc := ⟨.hbm, 175, rfl⟩
abbrev main_while0b_v175 : Ref sig .tc := ⟨.hbm, 176, rfl⟩
abbrev main_while0b_v176 : Ref sig .tc := ⟨.hbm, 177, rfl⟩
abbrev main_while0b_v177 : Ref sig .tc := ⟨.hbm, 178, rfl⟩
abbrev main_while0b_v178 : Ref sig .tc := ⟨.hbm, 179, rfl⟩
abbrev main_while0b_v179 : Ref sig .tc := ⟨.hbm, 180, rfl⟩
abbrev main_while0b_v180 : Ref sig .tc := ⟨.hbm, 181, rfl⟩
abbrev main_while0b_v181 : Ref sig .tc := ⟨.hbm, 182, rfl⟩
abbrev main_while0b_v182 : Ref sig .tc := ⟨.hbm, 183, rfl⟩
abbrev main_while0b_v183 : Ref sig .tc := ⟨.hbm, 184, rfl⟩
abbrev main_while0b_v184 : Ref sig .tc := ⟨.hbm, 185, rfl⟩
abbrev main_while0b_v185 : Ref sig .tc := ⟨.hbm, 186, rfl⟩
abbrev main_while0b_v186 : Ref sig .tc := ⟨.hbm, 187, rfl⟩
abbrev main_while0b_v187 : Ref sig .tc := ⟨.hbm, 188, rfl⟩
abbrev main_while0b_call8_v0 : Ref sig .tc := ⟨.hbm, 189, rfl⟩
abbrev main_while0b_call8_c : Ref sig .tc := ⟨.hbm, 190, rfl⟩
abbrev main_while0b_call8_c_0 : Ref sig .tc := ⟨.hbm, 191, rfl⟩
abbrev main_while0b_call8_c_1 : Ref sig .tc := ⟨.hbm, 192, rfl⟩
abbrev main_while0b_call8_c_2 : Ref sig .tc := ⟨.hbm, 193, rfl⟩
abbrev main_while0b_v188 : Ref sig .tc := ⟨.hbm, 194, rfl⟩
abbrev main_while0b_call9_v0 : Ref sig .tc := ⟨.hbm, 195, rfl⟩
abbrev main_while0b_call9_c : Ref sig .tc := ⟨.hbm, 196, rfl⟩
abbrev main_while0b_call9_c_0 : Ref sig .tc := ⟨.hbm, 197, rfl⟩
abbrev main_while0b_call9_c_1 : Ref sig .tc := ⟨.hbm, 198, rfl⟩
abbrev main_while0b_v189 : Ref sig .tc := ⟨.hbm, 199, rfl⟩
abbrev main_while0b_call10_v0 : Ref sig .tc := ⟨.hbm, 200, rfl⟩
abbrev main_while0b_call10_c : Ref sig .tc := ⟨.hbm, 201, rfl⟩
abbrev main_while0b_call10_c_0 : Ref sig .tc := ⟨.hbm, 202, rfl⟩
abbrev main_while0b_v190 : Ref sig .tc := ⟨.hbm, 203, rfl⟩
abbrev main_while0b_c_29 : Ref sig .tc := ⟨.hbm, 204, rfl⟩
abbrev main_while0b_v191 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_c_10 : Ref sig .tc := ⟨.hbm, 209, rfl⟩
abbrev main_v95 : Ref sig .tc := ⟨.hbm, 210, rfl⟩
abbrev main_call11_v0 : Ref sig .tc := ⟨.hbm, 211, rfl⟩
abbrev main_call11_c : Ref sig .tc := ⟨.hbm, 212, rfl⟩
abbrev main_call11_v1 : Ref sig .tc := ⟨.hbm, 213, rfl⟩
abbrev main_call11_v2 : Ref sig .tc := ⟨.hbm, 214, rfl⟩
abbrev main_call11_v3 : Ref sig .tc := ⟨.hbm, 215, rfl⟩
abbrev main_call11_v4 : Ref sig .tc := ⟨.hbm, 216, rfl⟩
abbrev main_call11_c_0 : Ref sig .tc := ⟨.hbm, 217, rfl⟩
abbrev main_call11_v5 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_cst_11 : Ref sig .tc := ⟨.hbm, 228, rfl⟩
abbrev main_call12_v0 : Ref sig .tc := ⟨.hbm, 229, rfl⟩
abbrev main_call12_v1 : Ref sig .tc := ⟨.hbm, 230, rfl⟩
abbrev main_call12_v2 : Ref sig .tc := ⟨.hbm, 231, rfl⟩
abbrev main_v105 : Ref sig .tc := ⟨.hbm, 232, rfl⟩
abbrev main_v106 : Ref sig .tc := ⟨.hbm, 233, rfl⟩
abbrev main_v107 : Ref sig .tc := ⟨.hbm, 234, rfl⟩
abbrev main_v108 : Ref sig .tc := ⟨.hbm, 235, rfl⟩
abbrev main_cst_12 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_cst_13 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩
abbrev main_v134 : Ref sig .tc := ⟨.hbm, 263, rfl⟩
abbrev main_v135 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_cst_14 : Ref sig .tc := ⟨.hbm, 270, rfl⟩
abbrev main_v141 : Ref sig .tc := ⟨.hbm, 271, rfl⟩
abbrev main_v142 : Ref sig .tc := ⟨.hbm, 272, rfl⟩
abbrev main_cst_15 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_cst_16 : Ref sig .tc := ⟨.hbm, 278, rfl⟩
abbrev main_v147 : Ref sig .tc := ⟨.hbm, 279, rfl⟩
abbrev main_v148 : Ref sig .tc := ⟨.hbm, 280, rfl⟩
abbrev main_cst_17 : Ref sig .tc := ⟨.hbm, 281, rfl⟩
abbrev main_v149 : Ref sig .tc := ⟨.hbm, 282, rfl⟩
abbrev main_v150 : Ref sig .tc := ⟨.hbm, 283, rfl⟩
abbrev main_cst_18 : Ref sig .tc := ⟨.hbm, 284, rfl⟩
abbrev main_v151 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_call13_v0 : Ref sig .tc := ⟨.hbm, 294, rfl⟩
abbrev main_call13_v1 : Ref sig .tc := ⟨.hbm, 295, rfl⟩
abbrev main_call13_cst : Ref sig .tc := ⟨.hbm, 296, rfl⟩
abbrev main_call13_v2 : Ref sig .tc := ⟨.hbm, 297, rfl⟩
abbrev main_call13_v3 : Ref sig .tc := ⟨.hbm, 298, rfl⟩
abbrev main_call13_cst_0 : Ref sig .tc := ⟨.hbm, 299, rfl⟩
abbrev main_call13_v4 : Ref sig .tc := ⟨.hbm, 300, rfl⟩
abbrev main_call13_v5 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16x4096x1024 : Shape := ⟨3, ![16, 4096, 1024]⟩
abbrev S16x3072 : Shape := ⟨2, ![16, 3072]⟩
abbrev S1024 : Shape := ⟨1, ![1024]⟩
abbrev S1024x4616 : Shape := ⟨2, ![1024, 4616]⟩
abbrev S1024x2560 : Shape := ⟨2, ![1024, 2560]⟩
abbrev S1024x512 : Shape := ⟨2, ![1024, 512]⟩
abbrev S_ : Shape := ⟨0, ![]⟩
abbrev S1024x1536 : Shape := ⟨2, ![1024, 1536]⟩
abbrev S1024x8 : Shape := ⟨2, ![1024, 8]⟩
abbrev S1024x520 : Shape := ⟨2, ![1024, 520]⟩
abbrev S520x1024 : Shape := ⟨2, ![520, 1024]⟩
abbrev S528x1024 : Shape := ⟨2, ![528, 1024]⟩
abbrev S16x1x3072 : Shape := ⟨3, ![16, 1, 3072]⟩
abbrev S1x1024 : Shape := ⟨2, ![1, 1024]⟩
abbrev S16x4096x2560 : Shape := ⟨3, ![16, 4096, 2560]⟩
abbrev S16x4x4096x128 : Shape := ⟨4, ![16, 4, 4096, 128]⟩
abbrev S16x4x32x128x256 : Shape := ⟨5, ![16, 4, 32, 128, 256]⟩
abbrev S16x4x8192x128 : Shape := ⟨4, ![16, 4, 8192, 128]⟩
abbrev S16x8x4096 : Shape := ⟨3, ![16, 8, 4096]⟩
abbrev S1x512x1024 : Shape := ⟨3, ![1, 512, 1024]⟩
abbrev S1x1x1024 : Shape := ⟨3, ![1, 1, 1024]⟩
abbrev S1x512x2560 : Shape := ⟨3, ![1, 512, 2560]⟩
abbrev S1x4x512x128 : Shape := ⟨4, ![1, 4, 512, 128]⟩
abbrev S1x4x4x128x256 : Shape := ⟨5, ![1, 4, 4, 128, 256]⟩
abbrev S1x4x1024x128 : Shape := ⟨4, ![1, 4, 1024, 128]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S528x512 : Shape := ⟨2, ![528, 512]⟩
abbrev S8x512 : Shape := ⟨2, ![8, 512]⟩
abbrev S128x512 : Shape := ⟨2, ![128, 512]⟩
abbrev S128x128 : Shape := ⟨2, ![128, 128]⟩
abbrev S1x1x1x128x128 : Shape := ⟨5, ![1, 1, 1, 128, 128]⟩
abbrev S512x128 : Shape := ⟨2, ![512, 128]⟩
abbrev S1x1x512x128 : Shape := ⟨4, ![1, 1, 512, 128]⟩
abbrev S1x1x128x128 : Shape := ⟨4, ![1, 1, 128, 128]⟩

abbrev nBuf : Space → Nat
  | .hbm => 30
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x3072, .f32⟩
  | .hbm, ⟨2, _⟩ => ⟨S1024, .f32⟩
  | .hbm, ⟨3, _⟩ => ⟨S1024x4616, .f32⟩
  | .hbm, ⟨4, _⟩ => ⟨S1024x2560, .f32⟩
  | .hbm, ⟨5, _⟩ => ⟨S1024x2560, .bf16⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x1536, .f32⟩
  | .hbm, ⟨14, _⟩ => ⟨S1024x1536, .bf16⟩
  | .hbm, ⟨15, _⟩ => ⟨S1024x8, .f32⟩
  | .hbm, ⟨16, _⟩ => ⟨S1024x520, .f32⟩
  | .hbm, ⟨17, _⟩ => ⟨S520x1024, .f32⟩
  | .hbm, ⟨18, _⟩ => ⟨S_, .i32⟩
  | .hbm, ⟨19, _⟩ => ⟨S_, .f32⟩
  | .hbm, ⟨20, _⟩ => ⟨S528x1024, .f32⟩
  | .hbm, ⟨21, _⟩ => ⟨S528x1024, .bf16⟩
  | .hbm, ⟨22, _⟩ => ⟨S16x1x3072, .f32⟩
  | .hbm, ⟨23, _⟩ => ⟨S1x1024, .f32⟩
  | .hbm, ⟨24, _⟩ => ⟨S16x4096x2560, .bf16⟩
  | .hbm, ⟨25, _⟩ => ⟨S16x4x4096x128, .bf16⟩
  | .hbm, ⟨26, _⟩ => ⟨S16x4x32x128x256, .bf16⟩
  | .hbm, ⟨27, _⟩ => ⟨S16x4x8192x128, .bf16⟩
  | .hbm, ⟨28, _⟩ => ⟨S16x4x4096x128, .bf16⟩
  | .hbm, ⟨29, _⟩ => ⟨S16x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2560, .bf16⟩
  | .local _ .vmem, ⟨8, _⟩ => ⟨S528x1024, .bf16⟩
  | .local _ .vmem, ⟨9, _⟩ => ⟨S1024x1536, .bf16⟩
  | .local _ .vmem, ⟨10, _⟩ => ⟨S1x512x2560, .bf16⟩
  | .local _ .vmem, ⟨11, _⟩ => ⟨S1x512x2560, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S1x4x4x128x256, .bf16⟩
  | .local _ .vmem, ⟨15, _⟩ => ⟨S1x4x4x128x256, .bf16⟩
  | .local _ .vmem, ⟨16, _⟩ => ⟨S1x4x1024x128, .bf16⟩
  | .local _ .vmem, ⟨17, _⟩ => ⟨S1x4x1024x128, .bf16⟩
  | .local _ .vmem, ⟨18, _⟩ => ⟨S1x4x512x128, .bf16⟩
  | .local _ .vmem, ⟨19, _⟩ => ⟨S1x4x512x128, .bf16⟩
  | .local _ .vmem, ⟨20, _⟩ => ⟨S1x8x512, .f32⟩
  | .local _ .vmem, ⟨21, _⟩ => ⟨S1x8x512, .f32⟩
  | .local _ .vmem, ⟨22, _⟩ => ⟨S512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S528x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x4x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x4096x1024 : Shape := ⟨3, ![16, 4096, 1024]⟩
abbrev S16x3072 : Shape := ⟨2, ![16, 3072]⟩
abbrev S1024 : Shape := ⟨1, ![1024]⟩
abbrev S1024x4616 : Shape := ⟨2, ![1024, 4616]⟩
abbrev S16x1024 : Shape := ⟨2, ![16, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x4616 : Shape := ⟨3, ![16, 4096, 4616]⟩
abbrev S16x4096x2560 : Shape := ⟨3, ![16, 4096, 2560]⟩
abbrev S16x4096x8 : Shape := ⟨3, ![16, 4096, 8]⟩
abbrev S16x4096x512 : Shape := ⟨3, ![16, 4096, 512]⟩
abbrev S16x4096x4x128 : Shape := ⟨4, ![16, 4096, 4, 128]⟩
abbrev S16x4x4096x128 : Shape := ⟨4, ![16, 4, 4096, 128]⟩
abbrev S16x32x128x4x128 : Shape := ⟨5, ![16, 32, 128, 4, 128]⟩
abbrev S16x4x32x128x128 : Shape := ⟨5, ![16, 4, 32, 128, 128]⟩
abbrev S128 : Shape := ⟨1, ![128]⟩
abbrev S128x1 : Shape := ⟨2, ![128, 1]⟩
abbrev S16x4x32x128x256 : Shape := ⟨5, ![16, 4, 32, 128, 256]⟩
abbrev S16x4x32x256x128 : Shape := ⟨5, ![16, 4, 32, 256, 128]⟩
abbrev S16x4x8192x128 : Shape := ⟨4, ![16, 4, 8192, 128]⟩
abbrev S16x8x4096 : Shape := ⟨3, ![16, 8, 4096]⟩

abbrev nBuf : Space → Nat
  | .hbm => 85
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x3072, .f32⟩
  | .hbm, ⟨2, _⟩ => ⟨S1024, .f32⟩
  | .hbm, ⟨3, _⟩ => ⟨S1024x4616, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x1x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x4096x1024, .f32⟩
  | .hbm, ⟨28, _⟩ => ⟨S16x4096x1024, .f32⟩
  | .hbm, ⟨29, _⟩ => ⟨S16x1x1024, .f32⟩
  | .hbm, ⟨30, _⟩ => ⟨S16x4096x1024, .f32⟩
  | .hbm, ⟨31, _⟩ => ⟨S16x4096x1024, .f32⟩
  | .hbm, ⟨32, _⟩ => ⟨S16x4096x4616, .f32⟩
  | .hbm, ⟨33, _⟩ => ⟨S16x4096x2560, .f32⟩
  | .hbm, ⟨34, _⟩ => ⟨S16x4096x8, .f32⟩
  | .hbm, ⟨35, _⟩ => ⟨S16x4096x512, .f32⟩
  | .hbm, ⟨36, _⟩ => ⟨S16x4096x512, .f32⟩
  | .hbm, ⟨37, _⟩ => ⟨S16x4096x512, .f32⟩
  | .hbm, ⟨38, _⟩ => ⟨S16x4096x512, .f32⟩
  | .hbm, ⟨39, _⟩ => ⟨S_, .f32⟩
  | .hbm, ⟨40, _⟩ => ⟨S16x4096x512, .f32⟩
  | .hbm, ⟨41, _⟩ => ⟨S16x4096x512, .f32⟩
  | .hbm, ⟨42, _⟩ => ⟨S16x4096x4x128, .f32⟩
  | .hbm, ⟨43, _⟩ => ⟨S16x4x4096x128, .f32⟩
  | .hbm, ⟨44, _⟩ => ⟨S16x32x128x4x128, .f32⟩
  | .hbm, ⟨45, _⟩ => ⟨S16x4x32x128x128, .f32⟩
  | .hbm, ⟨46, _⟩ => ⟨S16x32x128x4x128, .f32⟩
  | .hbm, ⟨47, _⟩ => ⟨S16x4x32x128x128, .f32⟩
  | .hbm, ⟨48, _⟩ => ⟨S16x4096x4x128, .f32⟩
  | .hbm, ⟨49, _⟩ => ⟨S16x4x4096x128, .f32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S128x1, .i1⟩
  | .hbm, ⟨55, _⟩ => ⟨S_, .f32⟩
  | .hbm, ⟨56, _⟩ => ⟨S_, .f32⟩
  | .hbm, ⟨57, _⟩ => ⟨S16x4x32x128x128, .i1⟩
  | .hbm, ⟨58, _⟩ => ⟨S16x4x32x128x128, .f32⟩
  | .hbm, ⟨59, _⟩ => ⟨S16x4x32x128x128, .f32⟩
  | .hbm, ⟨60, _⟩ => ⟨S128x1, .i1⟩
  | .hbm, ⟨61, _⟩ => ⟨S_, .f32⟩
  | .hbm, ⟨62, _⟩ => ⟨S_, .f32⟩
  | .hbm, ⟨63, _⟩ => ⟨S16x4x32x128x128, .i1⟩
  | .hbm, ⟨64, _⟩ => ⟨S16x4x32x128x128, .f32⟩
  | .hbm, ⟨65, _⟩ => ⟨S16x4x32x128x128, .f32⟩
  | .hbm, ⟨66, _⟩ => ⟨S16x4x32x128x256, .f32⟩
  | .hbm, ⟨67, _⟩ => ⟨S_, .f32⟩
  | .hbm, ⟨68, _⟩ => ⟨S_, .f32⟩
  | .hbm, ⟨69, _⟩ => ⟨S16x4x32x128x128, .i1⟩
  | .hbm, ⟨70, _⟩ => ⟨S16x4x32x128x128, .f32⟩
  | .hbm, ⟨71, _⟩ => ⟨S16x4x32x128x128, .f32⟩
  | .hbm, ⟨72, _⟩ => ⟨S_, .f32⟩
  | .hbm, ⟨73, _⟩ => ⟨S_, .f32⟩
  | .hbm, ⟨74, _⟩ => ⟨S16x4x32x128x128, .i1⟩
  | .hbm, ⟨75, _⟩ => ⟨S16x4x32x128x128, .f32⟩
  | .hbm, ⟨76, _⟩ => ⟨S16x4x32x128x128, .f32⟩
  | .hbm, ⟨77, _⟩ => ⟨S16x4x32x256x128, .f32⟩
  | .hbm, ⟨78, _⟩ => ⟨S16x4096x2560, .bf16⟩
  | .hbm, ⟨79, _⟩ => ⟨S16x4x4096x128, .bf16⟩
  | .hbm, ⟨80, _⟩ => ⟨S16x4x32x128x256, .bf16⟩
  | .hbm, ⟨81, _⟩ => ⟨S16x4x8192x128, .f32⟩
  | .hbm, ⟨82, _⟩ => ⟨S16x4x8192x128, .bf16⟩
  | .hbm, ⟨83, _⟩ => ⟨S16x4x4096x128, .bf16⟩
  | .hbm, ⟨84, _⟩ => ⟨S16x8x4096, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v49 : Ref sig .tc := ⟨.hbm, 71, rfl⟩
abbrev main_cst_7 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Kernel3.lean ====
abbrev S16x4096x512 : Shape := ⟨3, ![16, 4096, 512]⟩
abbrev S16x4096x1024 : Shape := ⟨3, ![16, 4096, 1024]⟩
abbrev S16x3072 : Shape := ⟨2, ![16, 3072]⟩
abbrev S1024x1024 : Shape := ⟨2, ![1024, 1024]⟩
abbrev S1024 : Shape := ⟨1, ![1024]⟩
abbrev S16x4096x4x128 : Shape := ⟨4, ![16, 4096, 4, 128]⟩
abbrev S16x4x4096x128 : Shape := ⟨4, ![16, 4, 4096, 128]⟩
abbrev S16x1x3072 : Shape := ⟨3, ![16, 1, 3072]⟩
abbrev S512x1024 : Shape := ⟨2, ![512, 1024]⟩
abbrev S1x1024 : Shape := ⟨2, ![1, 1024]⟩
abbrev S1x2048x512 : Shape := ⟨3, ![1, 2048, 512]⟩
abbrev S1x4x2048x128 : Shape := ⟨4, ![1, 4, 2048, 128]⟩
abbrev S1x2048x1024 : Shape := ⟨3, ![1, 2048, 1024]⟩
abbrev S1x1x1024 : Shape := ⟨3, ![1, 1, 1024]⟩
abbrev S1x1x2048x128 : Shape := ⟨4, ![1, 1, 2048, 128]⟩
abbrev S2048x128 : Shape := ⟨2, ![2048, 128]⟩
abbrev S2048x512 : Shape := ⟨2, ![2048, 512]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 16
  | .vmem => 13
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x1024, .f32⟩
  | .hbm, ⟨3, _⟩ => ⟨S16x3072, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S16x4096x512, .bf16⟩
  | .hbm, ⟨8, _⟩ => ⟨S16x4096x4x128, .bf16⟩
  | .hbm, ⟨9, _⟩ => ⟨S16x4x4096x128, .bf16⟩
  | .hbm, ⟨10, _⟩ => ⟨S16x4096x512, .bf16⟩
  | .hbm, ⟨11, _⟩ => ⟨S16x1x3072, .f32⟩
  | .hbm, ⟨12, _⟩ => ⟨S512x1024, .bf16⟩
  | .hbm, ⟨13, _⟩ => ⟨S512x1024, .bf16⟩
  | .hbm, ⟨14, _⟩ => ⟨S1x1024, .f32⟩
  | .hbm, ⟨15, _⟩ => ⟨S16x4096x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x4x2048x128, .bf16⟩
  | .local _ .vmem, ⟨3, _⟩ => ⟨S1x4x2048x128, .bf16⟩
  | .local _ .vmem, ⟨4, _⟩ => ⟨S1x2048x1024, .f32⟩
  | .local _ .vmem, ⟨5, _⟩ => ⟨S1x2048x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S1x2048x1024, .f32⟩
  | .local _ .vmem, ⟨12, _⟩ => ⟨S1x2048x1024, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16x4096x512 : Shape := ⟨3, ![16, 4096, 512]⟩
abbrev S16x4096x1024 : Shape := ⟨3, ![16, 4096, 1024]⟩
abbrev S16x3072 : Shape := ⟨2, ![16, 3072]⟩
abbrev S1024x1024 : Shape := ⟨2, ![1024, 1024]⟩
abbrev S1024 : Shape := ⟨1, ![1024]⟩
abbrev S16x1024 : Shape := ⟨2, ![16, 1024]⟩
abbrev S_ : Shape := ⟨0, ![]⟩
abbrev S16x4096 : Shape := ⟨2, ![16, 4096]⟩
abbrev S16x4096x1 : Shape := ⟨3, ![16, 4096, 1]⟩
abbrev S16x1x1024 : Shape := ⟨3, ![16, 1, 1024]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x1024, .f32⟩
  | .hbm, ⟨3, _⟩ => ⟨S16x3072, .f32⟩
  | .hbm, ⟨4, _⟩ => ⟨S1024x1024, .f32⟩
  | .hbm, ⟨5, _⟩ => ⟨S1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S_, .f32⟩
  | .hbm, ⟨13, _⟩ => ⟨S16x4096, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S16x4096x1, .f32⟩
  | .hbm, ⟨22, _⟩ => ⟨S16x1x1024, .f32⟩
  | .hbm, ⟨23, _⟩ => ⟨S16x4096x1024, .f32⟩
  | .hbm, ⟨24, _⟩ => ⟨S16x4096x1024, .f32⟩
  | .hbm, ⟨25, _⟩ => ⟨S1x1x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S16x1024 : Shape := ⟨2, ![16, 1024]⟩
abbrev S1024x3072 : Shape := ⟨2, ![1024, 3072]⟩
abbrev S3072 : Shape := ⟨1, ![3072]⟩
abbrev S1x3072 : Shape := ⟨2, ![1, 3072]⟩
abbrev S16x3072 : Shape := ⟨2, ![16, 3072]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S3072, .f32⟩
  | .hbm, ⟨3, _⟩ => ⟨S1x3072, .f32⟩
  | .hbm, ⟨4, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x3072 : Shape := ⟨2, ![1024, 3072]⟩
abbrev S3072 : Shape := ⟨1, ![3072]⟩
abbrev S_ : Shape := ⟨0, ![]⟩
abbrev S16x3072 : Shape := ⟨2, ![16, 3072]⟩
abbrev S1x3072 : Shape := ⟨2, ![1, 3072]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x3072, .f32⟩
  | .hbm, ⟨13, _⟩ => ⟨S1x3072, .f32⟩
  | .hbm, ⟨14, _⟩ => ⟨S16x3072, .f32⟩
  | .hbm, ⟨15, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S16x4096x512 : Shape := ⟨3, ![16, 4096, 512]⟩
abbrev S_ : Shape := ⟨0, ![]⟩
abbrev S16x4096x4x128 : Shape := ⟨4, ![16, 4096, 4, 128]⟩
abbrev S16x4x4096x128 : Shape := ⟨4, ![16, 4, 4096, 128]⟩
abbrev S1x1x1x1x128 : Shape := ⟨5, ![1, 1, 1, 1, 128]⟩
abbrev S16x4x32x128x128 : Shape := ⟨5, ![16, 4, 32, 128, 128]⟩
abbrev S16x4x32x256x128 : Shape := ⟨5, ![16, 4, 32, 256, 128]⟩
abbrev S16x4x32x128x256 : Shape := ⟨5, ![16, 4, 32, 128, 256]⟩
abbrev S16x4x8192x128 : Shape := ⟨4, ![16, 4, 8192, 128]⟩
abbrev S256x256 : Shape := ⟨2, ![256, 256]⟩
abbrev S256x128 : Shape := ⟨2, ![256, 128]⟩
abbrev S256x384 : Shape := ⟨2, ![256, 384]⟩
abbrev S1x4x256x128 : Shape := ⟨4, ![1, 4, 256, 128]⟩
abbrev S1x4x32x128x256 : Shape := ⟨5, ![1, 4, 32, 128, 256]⟩
abbrev S1x4x8192x128 : Shape := ⟨4, ![1, 4, 8192, 128]⟩
abbrev S24x128x256 : Shape := ⟨3, ![24, 128, 256]⟩
abbrev S3072x256 : Shape := ⟨2, ![3072, 256]⟩
abbrev S24x128x128 : Shape := ⟨3, ![24, 128, 128]⟩
abbrev S8x128x128 : Shape := ⟨3, ![8, 128, 128]⟩
abbrev S128x256 : Shape := ⟨2, ![128, 256]⟩
abbrev S1x1x128x128 : Shape := ⟨4, ![1, 1, 128, 128]⟩
abbrev S128x128 : Shape := ⟨2, ![128, 128]⟩
abbrev S1x1x1x128x256 : Shape := ⟨5, ![1, 1, 1, 128, 256]⟩
abbrev S1x128x256 : Shape := ⟨3, ![1, 128, 256]⟩
abbrev S3072x384 : Shape := ⟨2, ![3072, 384]⟩
abbrev S1x128x128 : Shape := ⟨3, ![1, 128, 128]⟩
abbrev S1x1x256x128 : Shape := ⟨4, ![1, 1, 256, 128]⟩
abbrev S1 : Shape := ⟨1, ![1]⟩
abbrev S1x1x1 : Shape := ⟨3, ![1, 1, 1]⟩
abbrev S1024x256 : Shape := ⟨2, ![1024, 256]⟩
abbrev S1024x384 : Shape := ⟨2, ![1024, 384]⟩

abbrev nBuf : Space → Nat
  | .hbm => 138
  | .vmem => 17
  | .smem => 0
  | _ => 0

abbrev hbmTy0_0 (i : Nat) : BufTy := match i % 128 with
  | 0 => ⟨S16x4096x512, .f32⟩
  | 1 => ⟨S16x4096x512, .f32⟩
  | 2 => ⟨S16x4096x512, .f32⟩
  | 3 => ⟨S16x4096x512, .f32⟩
  | 4 => ⟨S_, .f32⟩
  | 5 => ⟨S16x4096x512, .f32⟩
  | 6 => ⟨S16x4096x512, .f32⟩
  | 7 => ⟨S16x4096x4x128, .f32⟩
  | 8 => ⟨S16x4x4096x128, .f32⟩
  | 9 => ⟨S16x4x4096x128, .bf16⟩
  | 10 => ⟨S16x4096x4x128, .f32⟩
  | 11 => ⟨S16x4x4096x128, .f32⟩
  | 12 => ⟨S16x4x4096x128, .bf16⟩
  | 13 => ⟨S1x1x1x1x128, .i32⟩
  | 14 => ⟨S_, .i32⟩
  | 15 => ⟨S1x1x1x1x128, .i32⟩
  | 16 => ⟨S1x1x1x1x128, .i1⟩
  | 17 => ⟨S16x4096x4x128, .f32⟩
  | 18 => ⟨S16x4x4096x128, .f32⟩
  | 19 => ⟨S16x4x4096x128, .bf16⟩
  | 20 => ⟨S16x4x32x128x128, .bf16⟩
  | 21 => ⟨S16x4096x4x128, .f32⟩
  | 22 => ⟨S16x4x4096x128, .f32⟩
  | 23 => ⟨S16x4x4096x128, .bf16⟩
  | 24 => ⟨S16x4x32x128x128, .bf16⟩
  | 25 => ⟨S_, .bf16⟩
  | 26 => ⟨S16x4x32x128x128, .i1⟩
  | 27 => ⟨S16x4x32x128x128, .bf16⟩
  | 28 => ⟨S16x4x32x128x128, .bf16⟩
  | 29 => ⟨S_, .bf16⟩
  | 30 => ⟨S16x4x32x128x128, .i1⟩
  | 31 => ⟨S16x4x32x128x128, .bf16⟩
  | 32 => ⟨S16x4x32x128x128, .bf16⟩
  | 33 => ⟨S16x4x32x256x128, .bf16⟩
  | 34 => ⟨S_, .bf16⟩
  | 35 => ⟨S16x4x32x128x128, .i1⟩
  | 36 => ⟨S16x4x32x128x128, .bf16⟩
  | 37 => ⟨S16x4x32x128x128, .bf16⟩
  | 38 => ⟨S_, .bf16⟩
  | 39 => ⟨S16x4x32x128x128, .i1⟩
  | 40 => ⟨S16x4x32x128x128, .bf16⟩
  | 41 => ⟨S16x4x32x128x128, .bf16⟩
  | 42 => ⟨S16x4x32x256x128, .bf16⟩
  | 43 => ⟨S16x4x32x128x256, .bf16⟩
  | 44 => ⟨S16x4x8192x128, .bf16⟩
  | 45 => ⟨S256x256, .i32⟩
  | 46 => ⟨S256x256, .i32⟩
  | 47 => ⟨S256x256, .i1⟩
  | 48 => ⟨S_, .i32⟩
  | 49 => ⟨S_, .i32⟩
  | 50 => ⟨S256x256, .i32⟩
  | 51 => ⟨S256x256, .i32⟩
  | 52 => ⟨S256x256, .i32⟩
  | 53 => ⟨S_, .i32⟩
  | 54 => ⟨S256x256, .i32⟩
  | 55 => ⟨S256x256, .i1⟩
  | 56 => ⟨S256x256, .i32⟩
  | 57 => ⟨S256x256, .i32⟩
  | 58 => ⟨S_, .i32⟩
  | 59 => ⟨S256x256, .i32⟩
  | 60 => ⟨S256x256, .i1⟩
  | 61 => ⟨S256x256, .i1⟩
  | 62 => ⟨S_, .i32⟩
  | 63 => ⟨S256x256, .i32⟩
  | 64 => ⟨S256x256, .i32⟩
  | 65 => ⟨S256x256, .i32⟩
  | 66 => ⟨S_, .i32⟩
  | 67 => ⟨S_, .i32⟩
  | 68 => ⟨S256x256, .i32⟩
  | 69 => ⟨S256x256, .i32⟩
  | 70 => ⟨S256x256, .i32⟩
  | 71 => ⟨S_, .i32⟩
  | 72 => ⟨S256x256, .i32⟩
  | 73 => ⟨S256x256, .i1⟩
  | 74 => ⟨S256x256, .i32⟩
  | 75 => ⟨S256x256, .i32⟩
  | 76 => ⟨S_, .i32⟩
  | 77 => ⟨S256x256, .i32⟩
  | 78 => ⟨S256x256, .i1⟩
  | 79 => ⟨S256x256, .i1⟩
  | 80 => ⟨S_, .i32⟩
  | 81 => ⟨S256x256, .i32⟩
  | 82 => ⟨S256x256, .i32⟩
  | 83 => ⟨S256x256, .i32⟩
  | 84 => ⟨S256x256, .i1⟩
  | 85 => ⟨S256x256, .i1⟩
  | 86 => ⟨S_, .f32⟩
  | 87 => ⟨S_, .f32⟩
  | 88 => ⟨S256x256, .f32⟩
  | 89 => ⟨S256x256, .f32⟩
  | 90 => ⟨S256x256, .f32⟩
  | 91 => ⟨S256x128, .i32⟩
  | 92 => ⟨S256x128, .i32⟩
  | 93 => ⟨S_, .i32⟩
  | 94 => ⟨S_, .i32⟩
  | 95 => ⟨S256x128, .i32⟩
  | 96 => ⟨S256x128, .i32⟩
  | 97 => ⟨S256x128, .i32⟩
  | 98 => ⟨S_, .i32⟩
  | 99 => ⟨S256x128, .i32⟩
  | 100 => ⟨S256x128, .i1⟩
  | 101 => ⟨S256x128, .i32⟩
  | 102 => ⟨S256x128, .i32⟩
  | 103 => ⟨S_, .i32⟩
  | 104 => ⟨S256x128, .i32⟩
  | 105 => ⟨S256x128, .i1⟩
  | 106 => ⟨S256x128, .i1⟩
  | 107 => ⟨S_, .i32⟩
  | 108 => ⟨S256x128, .i32⟩
  | 109 => ⟨S256x128, .i32⟩
  | 110 => ⟨S256x128, .i32⟩
  | 111 => ⟨S_, .i32⟩
  | 112 => ⟨S_, .i32⟩
  | 113 => ⟨S256x128, .i32⟩
  | 114 => ⟨S256x128, .i32⟩
  | 115 => ⟨S256x128, .i32⟩
  | 116 => ⟨S_, .i32⟩
  | 117 => ⟨S256x128, .i32⟩
  | 118 => ⟨S256x128, .i1⟩
  | 119 => ⟨S256x128, .i32⟩
  | 120 => ⟨S256x128, .i32⟩
  | 121 => ⟨S_, .i32⟩
  | 122 => ⟨S256x128, .i32⟩
  | 123 => ⟨S256x128, .i1⟩
  | 124 => ⟨S256x128, .i1⟩
  | 125 => ⟨S_, .i32⟩
  | 126 => ⟨S256x128, .i32⟩
  | 127 => ⟨S256x128, .i32⟩
  | _ => ⟨S16x4096x512, .f32⟩

abbrev hbmTy0_1 (i : Nat) : BufTy := match i % 128 with
  | 0 => ⟨S256x128, .i32⟩
  | 1 => ⟨S256x128, .i1⟩
  | 2 => ⟨S_, .f32⟩
  | 3 => ⟨S_, .f32⟩
  | 4 => ⟨S256x128, .f32⟩
  | 5 => ⟨S256x128, .f32⟩
  | 6 => ⟨S256x128, .f32⟩
  | 7 => ⟨S256x384, .f32⟩
  | 8 => ⟨S256x384, .bf16⟩
  | 9 => ⟨S16x4x4096x128, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | .local _ .vmem, ⟨0, _⟩ => ⟨S1x4x256x128, .bf16⟩
  | .local _ .vmem, ⟨1, _⟩ => ⟨S1x4x256x128, .bf16⟩
  | .local _ .vmem, ⟨2, _⟩ => ⟨S1x4x32x128x256, .bf16⟩
  | .local _ .vmem, ⟨3, _⟩ => ⟨S1x4x32x128x256, .bf16⟩
  | .local _ .vmem, ⟨4, _⟩ => ⟨S1x4x8192x128, .bf16⟩
  | .local _ .vmem, ⟨5, _⟩ => ⟨S1x4x8192x128, .bf16⟩
  | .local _ .vmem, ⟨6, _⟩ => ⟨S1x4x256x128, .bf16⟩
  | .local _ .vmem, ⟨7, _⟩ => ⟨S1x4x256x128, .bf16⟩
  | .local _ .vmem, ⟨8, _⟩ => ⟨S256x384, .bf16⟩
  | .local _ .vmem, ⟨9, _⟩ => ⟨S1x4x256x128, .bf16⟩
  | .local _ .vmem, ⟨10, _⟩ => ⟨S1x4x256x128, .bf16⟩
  | .local _ .vmem, ⟨11, _⟩ => ⟨S24x128x256, .f32⟩
  | .local _ .vmem, ⟨12, _⟩ => ⟨S3072x256, .bf16⟩
  | .local _ .vmem, ⟨13, _⟩ => ⟨S24x128x256, .bf16⟩
  | .local _ .vmem, ⟨14, _⟩ => ⟨S24x128x128, .f32⟩
  | .local _ .vmem, ⟨15, _⟩ => ⟨S8x128x128, .f32⟩
  | .local _ .vmem, ⟨16, _⟩ => ⟨S8x128x128, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call2_v0 : Ref sig .tc := ⟨.hbm, 35, rfl⟩
abbrev main_call2_v1 : Ref sig .tc := ⟨.hbm, 36, rfl⟩
abbrev main_v22 : Ref sig .tc := ⟨.hbm, 37, rfl⟩
abbrev main_cst_3 : Ref sig .tc := ⟨.hbm, 38, rfl⟩
abbrev main_call3_v0 : Ref sig .tc := ⟨.hbm, 39, rfl⟩
abbrev main_call3_v1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_call4_v5 : Ref sig .tc := ⟨.hbm, 54, rfl⟩
abbrev main_call4_v6 : Ref sig .tc := ⟨.hbm, 55, rfl⟩
abbrev main_call4_v7 : Ref sig .tc := ⟨.hbm, 56, rfl⟩
abbrev main_call4_v8 : Ref sig .tc := ⟨.hbm, 57, rfl⟩
abbrev main_call4_c : Ref sig .tc := ⟨.hbm, 58, rfl⟩
abbrev main_call4_v9 : Ref sig .tc := ⟨.hbm, 59, rfl⟩
abbrev main_call4_v10 : Ref sig .tc := ⟨.hbm, 60, rfl⟩
abbrev main_call4_v11 : Ref sig .tc := ⟨.hbm, 61, rfl⟩
abbrev main_call4_c_0 : Ref sig .tc := ⟨.hbm, 62, rfl⟩
abbrev main_call4_v12 : Ref sig .tc := ⟨.hbm, 63, rfl⟩
abbrev main_call4_v13 : Ref sig .tc := ⟨.hbm, 64, rfl⟩
abbrev main_v30 : Ref sig .tc := ⟨.hbm, 65, rfl⟩
abbrev main_c_5 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_call5_v5 : Ref sig .tc := ⟨.hbm, 72, rfl⟩
abbrev main_call5_v6 : Ref sig .tc := ⟨.hbm, 73, rfl⟩
abbrev main_call5_v7 : Ref sig .tc := ⟨.hbm, 74, rfl⟩
abbrev main_call5_v8 : Ref sig .tc := ⟨.hbm, 75, rfl⟩
abbrev main_call5_c : Ref sig .tc := ⟨.hbm, 76, rfl⟩
abbrev main_call5_v9 : Ref sig .tc := ⟨.hbm, 77, rfl⟩
abbrev main_call5_v10 : Ref sig .tc := ⟨.hbm, 78, rfl⟩
abbrev main_call5_v11 : Ref sig .tc := ⟨.hbm, 79, rfl⟩
abbrev main_call5_c_0 : Ref sig .tc := ⟨.hbm, 80, rfl⟩
abbrev main_call5_v12 : Ref sig .tc := ⟨.hbm, 81, rfl⟩
abbrev main_call5_v13 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst_6 : Ref sig .tc := ⟨.hbm, 86, rfl⟩
abbrev main_cst_7 : Ref sig .tc := ⟨.hbm, 87, rfl⟩
abbrev main_call6_v0 : Ref sig .tc := ⟨.hbm, 88, rfl⟩
abbrev main_call6_v1 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_c_8 : Ref sig .tc := ⟨.hbm, 93, rfl⟩
abbrev main_call7_v0 : Ref sig .tc := ⟨.hbm, 94, rfl⟩
abbrev main_call7_v1 : Ref sig .tc := ⟨.hbm, 95, rfl⟩
abbrev main_call7_v2 : Ref sig .tc := ⟨.hbm, 96, rfl⟩
abbrev main_call7_v3 : Ref sig .tc := ⟨.hbm, 97, rfl⟩
abbrev main_call7_v4 : Ref sig .tc := ⟨.hbm, 98, rfl⟩
abbrev main_call7_v5 : Ref sig .tc := ⟨.hbm, 99, rfl⟩
abbrev main_call7_v6 : Ref sig .tc := ⟨.hbm, 100, rfl⟩
abbrev main_call7_v7 : Ref sig .tc := ⟨.hbm, 101, rfl⟩
abbrev main_call7_v8 : Ref sig .tc := ⟨.hbm, 102, rfl⟩
abbrev main_call7_c : Ref sig .tc := ⟨.hbm, 103, rfl⟩
abbrev main_call7_v9 : Ref sig .tc := ⟨.hbm, 104, rfl⟩
abbrev main_call7_v10 : Ref sig .tc := ⟨.hbm, 105, rfl⟩
abbrev main_call7_v11 : Ref sig .tc := ⟨.hbm, 106, rfl⟩
abbrev main_call7_c_0 : Ref sig .tc := ⟨.hbm, 107, rfl⟩
abbrev main_call7_v12 : Ref sig .tc := ⟨.hbm, 108, rfl⟩
abbrev main_call7_v13 : Ref sig .tc := ⟨.hbm, 109, rfl⟩
abbrev main_v37 : Ref sig .tc := ⟨.hbm, 110, rfl⟩
abbrev main_c_9 : Ref sig .tc := ⟨.hbm, 111, rfl⟩
abbrev main_call8_v0 : Ref sig .tc := ⟨.hbm, 112, rfl⟩
abbrev main_call8_v1 : Ref sig .tc := ⟨.hbm, 113, rfl⟩
abbrev main_call8_v2 : Ref sig .tc := ⟨.hbm, 114, rfl⟩
abbrev main_call8_v3 : Ref sig .tc := ⟨.hbm, 115, rfl⟩
abbrev main_call8_v4 : Ref sig .tc := ⟨.hbm, 116, rfl⟩
abbrev main_call8_v5 : Ref sig .tc := ⟨.hbm, 117, rfl⟩
abbrev main_call8_v6 : Ref sig .tc := ⟨.hbm, 118, rfl⟩
abbrev main_call8_v7 : Ref sig .tc := ⟨.hbm, 119, rfl⟩
abbrev main_call8_v8 : Ref sig .tc := ⟨.hbm, 120, rfl⟩
abbrev main_call8_c : Ref sig .tc := ⟨.hbm, 121, rfl⟩
abbrev main_call8_v9 : Ref sig .tc := ⟨.hbm, 122, rfl⟩
abbrev main_call8_v10 : Ref sig .tc := ⟨.hbm, 123, rfl⟩
abbrev main_call8_v11 : Ref sig .tc := ⟨.hbm, 124, rfl⟩
abbrev main_call8_c_0 : Ref sig .tc := ⟨.hbm, 125, rfl⟩
abbrev main_call8_v12 : Ref sig .tc := ⟨.hbm, 126, rfl⟩
abbrev main_call8_v13 : Ref sig .tc := ⟨.hbm, 127, rfl⟩
abbrev main_v38 : Ref sig .tc := ⟨.hbm, 128, rfl⟩
abbrev main_v39 : Ref sig .tc := ⟨.hbm, 129, rfl⟩
abbrev main_cst_10 : Ref sig .tc := ⟨.hbm, 130, rfl⟩
abbrev main_cst_11 : Ref sig .tc := ⟨.hbm, 131, rfl⟩
abbrev main_call9_v0 : Ref sig .tc := ⟨.hbm, 132, rfl⟩
abbrev main_call9_v1 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def k0_off1 (i : grid0.Coords) (c0_i32 : BitVec 32) (c0_i32_3 : BitVec 32) : Fin 5 → Nat :=
  let c0_5 : Index := 0#32
  let c0_6 : Index := 0#32
  let arg1 : BitVec 32 := BitVec.ofNat 32 (i 1).val
  let c2_i32 : BitVec 32 := 2#32
  let v0 : BitVec 32 := Scalar.muli arg1 c2_i32
  let v8 : BitVec 32 := Scalar.addi v0 c0_i32
  let v9 : BitVec 32 := Scalar.subi v8 c0_i32_3
  let c0_i32_4 : BitVec 32 := 0#32
  let v10 : BitVec 32 := Scalar.maxsi v9 c0_i32_4
  let v11 : Index := Scalar.indexCast v10
  let c0_7 : Index := 0#32
  let c0_8 : Index := 0#32
  ![0, 0, v11.toNat, 0, 0]
def k0_off2 (i : grid0.Coords) (c0_i32_21 : BitVec 32) (c0_i32_22 : BitVec 32) : Fin 5 → Nat :=
  let c0_24 : Index := 0#32
  let c1_25 : Index := 1#32
  let arg1 : BitVec 32 := BitVec.ofNat 32 (i 1).val
  let c2_i32 : BitVec 32 := 2#32
  let v0 : BitVec 32 := Scalar.muli arg1 c2_i32
  let v34 : BitVec 32 := Scalar.addi v0 c0_i32_21
  let v35 : BitVec 32 := Scalar.subi v34 c0_i32_22
  let c0_i32_23 : BitVec 32 := 0#32
  let v36 : BitVec 32 := Scalar.maxsi v35 c0_i32_23
  let v37 : Index := Scalar.indexCast v36
  let c0_26 : Index := 0#32
  let c0_27 : Index := 0#32
  ![0, 1, v37.toNat, 0, 0]
def k0_off3 (i : grid0.Coords) (c0_i32_40 : BitVec 32) (c0_i32_41 : BitVec 32) : Fin 5 → Nat :=
  let c0_43 : Index := 0#32
  let c2_44 : Index := 2#32
  let arg1 : BitVec 32 := BitVec.ofNat 32 (i 1).val
  let c2_i32 : BitVec 32 := 2#32
  let v0 : BitVec 32 := Scalar.muli arg1 c2_i32
  let v60 : BitVec 32 := Scalar.addi v0 c0_i32_40
  let v61 : BitVec 32 := Scalar.subi v60 c0_i32_41
  let c0_i32_42 : BitVec 32 := 0#32
  let v62 : BitVec 32 := Scalar.maxsi v61 c0_i32_42
  let v63 : Index := Scalar.indexCast v62
  let c0_45 : Index := 0#32
  let c0_46 : Index := 0#32
  ![0, 2, v63.toNat, 0, 0]
def k0_off4 (i : grid0.Coords) (c0_i32_59 : BitVec 32) (c0_i32_60 : BitVec 32) : Fin 5 → Nat :=
  let c0_62 : Index := 0#32
  let c3_63 : Index := 3#32
  let arg1 : BitVec 32 := BitVec.ofNat 32 (i 1).val
  let c2_i32 : BitVec 32 := 2#32
  let v0 : BitVec 32 := Scalar.muli arg1 c2_i32
  let v86 : BitVec 32 := Scalar.addi v0 c0_i32_59
  let v87 : BitVec 32 := Scalar.subi v86 c0_i32_60
  let c0_i32_61 : BitVec 32 := 0#32
  let v88 : BitVec 32 := Scalar.maxsi v87 c0_i32_61
  let v89 : Index := Scalar.indexCast v88
  let c0_64 : Index := 0#32
  let c0_65 : Index := 0#32
  ![0, 3, v89.toNat, 0, 0]
def k0_off5 (i : grid0.Coords) (c0_i32_670 : BitVec 32) (c0_i32_671 : BitVec 32) : Fin 4 → Nat :=
  let c0_673 : Index := 0#32
  let c0_674 : Index := 0#32
  let arg1 : BitVec 32 := BitVec.ofNat 32 (i 1).val
  let c2_i32 : BitVec 32 := 2#32
  let v0 : BitVec 32 := Scalar.muli arg1 c2_i32
  let v932 : BitVec 32 := Scalar.addi v0 c0_i32_670
  let v933 : BitVec 32 := Scalar.subi v932 c0_i32_671
  let c0_i32_672 : BitVec 32 := 0#32
  let v934 : BitVec 32 := Scalar.maxsi v933 c0_i32_672
  let c256_i32 : BitVec 32 := 256#32
  let v935 : BitVec 32 := Scalar.muli v934 c256_i32
  let v936 : Index := Scalar.indexCast v935
  let c0_675 : Index := 0#32
  ![0, 0, v936.toNat, 0]
def k0_off6 (i : grid0.Coords) (c0_i32_727 : BitVec 32) (c0_i32_728 : BitVec 32) : Fin 4 → Nat :=
  let c0_731 : Index := 0#32
  let c1_732 : Index := 1#32
  let arg1 : BitVec 32 := BitVec.ofNat 32 (i 1).val
  let c2_i32 : BitVec 32 := 2#32
  let v0 : BitVec 32 := Scalar.muli arg1 c2_i32
  let v996 : BitVec 32 := Scalar.addi v0 c0_i32_727
  let v997 : BitVec 32 := Scalar.subi v996 c0_i32_728
  let c0_i32_729 : BitVec 32 := 0#32
  let v998 : BitVec 32 := Scalar.maxsi v997 c0_i32_729
  let c256_i32_730 : BitVec 32 := 256#32
  let v999 : BitVec 32 := Scalar.muli v998 c256_i32_730
  let v1000 : Index := Scalar.indexCast v999
  let c0_733 : Index := 0#32
  ![0, 1, v1000.toNat, 0]
def k0_off7 (i : grid0.Coords) (c0_i32_785 : BitVec 32) (c0_i32_786 : BitVec 32) : Fin 4 → Nat :=
  let c0_789 : Index := 0#32
  let c2_790 : Index := 2#32
  let arg1 : BitVec 32 := BitVec.ofNat 32 (i 1).val
  let c2_i32 : BitVec 32 := 2#32
  let v0 : BitVec 32 := Scalar.muli arg1 c2_i32
  let v1061 : BitVec 32 := Scalar.addi v0 c0_i32_785
  let v1062 : BitVec 32 := Scalar.subi v1061 c0_i32_786
  let c0_i32_787 : BitVec 32 := 0#32
  let v1063 : BitVec 32 := Scalar.maxsi v1062 c0_i32_787
  let c256_i32_788 : BitVec 32 := 256#32
  let v1064 : BitVec 32 := Scalar.muli v1063 c256_i32_788
  let v1065 : Index := Scalar.indexCast v1064
  let c0_791 : Index := 0#32
  ![0, 2, v1065.toNat, 0]
def k0_off8 (i : grid0.Coords) (c0_i32_843 : BitVec 32) (c0_i32_844 : BitVec 32) : Fin 4 → Nat :=
  let c0_847 : Index := 0#32
  let c3_848 : Index := 3#32
  let arg1 : BitVec 32 := BitVec.ofNat 32 (i 1).val
  let c2_i32 : BitVec 32 := 2#32
  let v0 : BitVec 32 := Scalar.muli arg1 c2_i32
  let v1126 : BitVec 32 := Scalar.addi v0 c0_i32_843
  let v1127 : BitVec 32 := Scalar.subi v1126 c0_i32_844
  let c0_i32_845 : BitVec 32 := 0#32
  let v1128 : BitVec 32 := Scalar.maxsi v1127 c0_i32_845
  let c256_i32_846 : BitVec 32 := 256#32
  let v1129 : BitVec 32 := Scalar.muli v1128 c256_i32_846
  let v1130 : Index := Scalar.indexCast v1129
  let c0_849 : Index := 0#32
  ![0, 3, v1130.toNat, 0]
def k0_off9 (i : grid0.Coords) (arg14 : BitVec 32) (c0_i32_1232 : BitVec 32) : Fin 5 → Nat :=
  let c0_1234 : Index := 0#32
  let c0_1235 : Index := 0#32
  let arg1 : BitVec 32 := BitVec.ofNat 32 (i 1).val
  let c2_i32 : BitVec 32 := 2#32
  let v0 : BitVec 32 := Scalar.muli arg1 c2_i32
  let v1580 : BitVec 32 := Scalar.addi v0 c0_i32_1232
  let v1581 : BitVec 32 := Scalar.subi v1580 arg14
  let c0_i32_1233 : BitVec 32 := 0#32
  let v1582 : BitVec 32 := Scalar.maxsi v1581 c0_i32_1233
  let v1583 : Index := Scalar.indexCast v1582
  let c0_1236 : Index := 0#32
  let c0_1237 : Index := 0#32
  ![0, 0, v1583.toNat, 0, 0]

def k0_off10 (i : grid0.Coords) (arg14 : BitVec 32) (c0_i32_1251 : BitVec 32) : Fin 5 → Nat :=
  let c0_1253 : Index := 0#32
  let c1_1254 : Index := 1#32
  let arg1 : BitVec 32 := BitVec.ofNat 32 (i 1).val
  let c2_i32 : BitVec 32 := 2#32
  let v0 : BitVec 32 := Scalar.muli arg1 c2_i32
  let v1604 : BitVec 32 := Scalar.addi v0 c0_i32_1251
  let v1605 : BitVec 32 := Scalar.subi v1604 arg14
  let c0_i32_1252 : BitVec 32 := 0#32
  let v1606 : BitVec 32 := Scalar.maxsi v1605 c0_i32_1252
  let v1607 : Index := Scalar.indexCast v1606
  let c0_1255 : Index := 0#32
  let c0_1256 : Index := 0#32
  ![0, 1, v1607.toNat, 0, 0]
def k0_off11 (i : grid0.Coords) (arg14 : BitVec 32) (c0_i32_1270 : BitVec 32) : Fin 5 → Nat :=
  let c0_1272 : Index := 0#32
  let c2_1273 : Index := 2#32
  let arg1 : BitVec 32 := BitVec.ofNat 32 (i 1).val
  let c2_i32 : BitVec 32 := 2#32
  let v0 : BitVec 32 := Scalar.muli arg1 c2_i32
  let v1628 : BitVec 32 := Scalar.addi v0 c0_i32_1270
  let v1629 : BitVec 32 := Scalar.subi v1628 arg14
  let c0_i32_1271 : BitVec 32 := 0#32
  let v1630 : BitVec 32 := Scalar.maxsi v1629 c0_i32_1271
  let v1631 : Index := Scalar.indexCast v1630
  let c0_1274 : Index := 0#32
  let c0_1275 : Index := 0#32
  ![0, 2, v1631.toNat, 0, 0]
def k0_off12 (i : grid0.Coords) (arg14 : BitVec 32) (c0_i32_1289 : BitVec 32) : Fin 5 → Nat :=
  let c0_1291 : Index := 0#32
  let c3_1292 : Index := 3#32
  let arg1 : BitVec 32 := BitVec.ofNat 32 (i 1).val
  let c2_i32 : BitVec 32 := 2#32
  let v0 : BitVec 32 := Scalar.muli arg1 c2_i32
  let v1652 : BitVec 32 := Scalar.addi v0 c0_i32_1289
  let v1653 : BitVec 32 := Scalar.subi v1652 arg14
  let c0_i32_1290 : BitVec 32 := 0#32
  let v1654 : BitVec 32 := Scalar.maxsi v1653 c0_i32_1290
  let v1655 : Index := Scalar.indexCast v1654
  let c0_1293 : Index := 0#32
  let c0_1294 : Index := 0#32
  ![0, 3, v1655.toNat, 0, 0]
def k0_off13 (i : grid0.Coords) (arg14 : BitVec 32) (c0_i32_1466 : BitVec 32) : Fin 4 → Nat :=
  let c0_1469 : Index := 0#32
  let c0_1470 : Index := 0#32
  let arg1 : BitVec 32 := BitVec.ofNat 32 (i 1).val
  let c2_i32 : BitVec 32 := 2#32
  let v0 : BitVec 32 := Scalar.muli arg1 c2_i32
  let v1884 : BitVec 32 := Scalar.addi v0 c0_i32_1466
  let v1885 : BitVec 32 := Scalar.subi v1884 arg14
  let c0_i32_1467 : BitVec 32 := 0#32
  let v1886 : BitVec 32 := Scalar.maxsi v1885 c0_i32_1467
  let c256_i32_1468 : BitVec 32 := 256#32
  let v1887 : BitVec 32 := Scalar.muli v1886 c256_i32_1468
  let v1888 : Index := Scalar.indexCast v1887
  let c0_1471 : Index := 0#32
  ![0, 0, v1888.toNat, 0]
def k0_off14 (i : grid0.Coords) (arg14 : BitVec 32) (c0_i32_1495 : BitVec 32) : Fin 4 → Nat :=
  let c0_1498 : Index := 0#32
  let c1_1499 : Index := 1#32
  let arg1 : BitVec 32 := BitVec.ofNat 32 (i 1).val
  let c2_i32 : BitVec 32 := 2#32
  let v0 : BitVec 32 := Scalar.muli arg1 c2_i32
  let v1917 : BitVec 32 := Scalar.addi v0 c0_i32_1495
  let v1918 : BitVec 32 := Scalar.subi v1917 arg14
  let c0_i32_1496 : BitVec 32 := 0#32
  let v1919 : BitVec 32 := Scalar.maxsi v1918 c0_i32_1496
  let c256_i32_1497 : BitVec 32 := 256#32
  let v1920 : BitVec 32 := Scalar.muli v1919 c256_i32_1497
  let v1921 : Index := Scalar.indexCast v1920
  let c0_1500 : Index := 0#32
  ![0, 1, v1921.toNat, 0]
def k0_off15 (i : grid0.Coords) (arg14 : BitVec 32) (c0_i32_1524 : BitVec 32) : Fin 4 → Nat :=
  let c0_1527 : Index := 0#32
  let c2_1528 : Index := 2#32
  let arg1 : BitVec 32 := BitVec.ofNat 32 (i 1).val
  let c2_i32 : BitVec 32 := 2#32
  let v0 : BitVec 32 := Scalar.muli arg1 c2_i32
  let v1951 : BitVec 32 := Scalar.addi v0 c0_i32_1524
  let v1952 : BitVec 32 := Scalar.subi v1951 arg14
  let c0_i32_1525 : BitVec 32 := 0#32
  let v1953 : BitVec 32 := Scalar.maxsi v1952 c0_i32_1525
  let c256_i32_1526 : BitVec 32 := 256#32
  let v1954 : BitVec 32 := Scalar.muli v1953 c256_i32_1526
  let v1955 : Index := Scalar.indexCast v1954
  let c0_1529 : Index := 0#32
  ![0, 2, v1955.toNat, 0]
def k0_off16 (i : grid0.Coords) (arg14 : BitVec 32) (c0_i32_1553 : BitVec 32) : Fin 4 → Nat :=
  let c0_1556 : Index := 0#32
  let c3_1557 : Index := 3#32
  let arg1 : BitVec 32 := BitVec.ofNat 32 (i 1).val
  let c2_i32 : BitVec 32 := 2#32
  let v0 : BitVec 32 := Scalar.muli arg1 c2_i32
  let v1985 : BitVec 32 := Scalar.addi v0 c0_i32_1553
  let v1986 : BitVec 32 := Scalar.subi v1985 arg14
  let c0_i32_1554 : BitVec 32 := 0#32
  let v1987 : BitVec 32 := Scalar.maxsi v1986 c0_i32_1554
  let c256_i32_1555 : BitVec 32 := 256#32
  let v1988 : BitVec 32 := Scalar.muli v1987 c256_i32_1555
  let v1989 : Index := Scalar.indexCast v1988
  let c0_1558 : Index := 0#32
  ![0, 3, v1989.toNat, 0]

def k0_chk1 (i : grid0.Coords) (arg14 : BitVec 32) : Prop :=
  (∀ (r : Fin 2), ∀ a, (k0_off9 i arg14 (BitVec.ofNat 32 r.val)) a + S1x1x1x128x256.size a ≤ S1x4x32x128x256.size a) ∧
  (∀ (r : Fin 2), ∀ a, (k0_off10 i arg14 (BitVec.ofNat 32 r.val)) a + S1x1x1x128x256.size a ≤ S1x4x32x128x256.size a) ∧
  (∀ (r : Fin 2), ∀ a, (k0_off11 i arg14 (BitVec.ofNat 32 r.val)) a + S1x1x1x128x256.size a ≤ S1x4x32x128x256.size a) ∧
  (∀ (r : Fin 2), ∀ a, (k0_off12 i arg14 (BitVec.ofNat 32 r.val)) a + S1x1x1x128x256.size a ≤ S1x4x32x128x256.size a) ∧
  (∀ (r : Fin 2), ∀ a, (k0_off13 i arg14 (BitVec.ofNat 32 r.val)) a + S1x1x256x128.size a ≤ S1x4x8192x128.size a) ∧
  (∀ (r : Fin 2), ∀ a, (k0_off14 i arg14 (BitVec.ofNat 32 r.val)) a + S1x1x256x128.size a ≤ S1x4x8192x128.size a) ∧
  (∀ (r : Fin 2), ∀ a, (k0_off15 i arg14 (BitVec.ofNat 32 r.val)) a + S1x1x256x128.size a ≤ S1x4x8192x128.size a) ∧
  (∀ (r : Fin 2), ∀ a, (k0_off16 i arg14 (BitVec.ofNat 32 r.val)) a + S1x1x256x128.size a ≤ S1x4x8192x128.size a)
theorem k0_off9_inb : ∀ (i : grid0.Coords) (arg14 : BitVec 32) (k0_hw1 : k0_chk1 i arg14), ∀ (r : Fin 2), ∀ a, (k0_off9 i arg14 (BitVec.ofNat 32 r.val)) a + S1x1x1x128x256.size a ≤ S1x4x32x128x256.size a := fun i arg14 k0_hw1 r => k0_hw1.1 r
theorem k0_off10_inb : ∀ (i : grid0.Coords) (arg14 : BitVec 32) (k0_hw1 : k0_chk1 i arg14), ∀ (r : Fin 2), ∀ a, (k0_off10 i arg14 (BitVec.ofNat 32 r.val)) a + S1x1x1x128x256.size a ≤ S1x4x32x128x256.size a := fun i arg14 k0_hw1 r => k0_hw1.2.1 r
theorem k0_off11_inb : ∀ (i : grid0.Coords) (arg14 : BitVec 32) (k0_hw1 : k0_chk1 i arg14), ∀ (r : Fin 2), ∀ a, (k0_off11 i arg14 (BitVec.ofNat 32 r.val)) a + S1x1x1x128x256.size a ≤ S1x4x32x128x256.size a := fun i arg14 k0_hw1 r => k0_hw1.2.2.1 r
theorem k0_off12_inb : ∀ (i : grid0.Coords) (arg14 : BitVec 32) (k0_hw1 : k0_chk1 i arg14), ∀ (r : Fin 2), ∀ a, (k0_off12 i arg14 (BitVec.ofNat 32 r.val)) a + S1x1x1x128x256.size a ≤ S1x4x32x128x256.size a := fun i arg14 k0_hw1 r => k0_hw1.2.2.2.1 r
theorem k0_off13_inb : ∀ (i : grid0.Coords) (arg14 : BitVec 32) (k0_hw1 : k0_chk1 i arg14), ∀ (r : Fin 2), ∀ a, (k0_off13 i arg14 (BitVec.ofNat 32 r.val)) a + S1x1x256x128.size a ≤ S1x4x8192x128.size a := fun i arg14 k0_hw1 r => k0_hw1.2.2.2.2.1 r
theorem k0_off14_inb : ∀ (i : grid0.Coords) (arg14 : BitVec 32) (k0_hw1 : k0_chk1 i arg14), ∀ (r : Fin 2), ∀ a, (k0_off14 i arg14 (BitVec.ofNat 32 r.val)) a + S1x1x256x128.size a ≤ S1x4x8192x128.size a := fun i arg14 k0_hw1 r => k0_hw1.2.2.2.2.2.1 r
theorem k0_off15_inb : ∀ (i : grid0.Coords) (arg14 : BitVec 32) (k0_hw1 : k0_chk1 i arg14), ∀ (r : Fin 2), ∀ a, (k0_off15 i arg14 (BitVec.ofNat 32 r.val)) a + S1x1x256x128.size a ≤ S1x4x8192x128.size a := fun i arg14 k0_hw1 r => k0_hw1.2.2.2.2.2.2.1 r
theorem k0_off16_inb : ∀ (i : grid0.Coords) (arg14 : BitVec 32) (k0_hw1 : k0_chk1 i arg14), ∀ (r : Fin 2), ∀ a, (k0_off16 i arg14 (BitVec.ofNat 32 r.val)) a + S1x1x256x128.size a ≤ S1x4x8192x128.size a := fun i arg14 k0_hw1 r => k0_hw1.2.2.2.2.2.2.2 r

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x32x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Silu.lean ====
/- The gate x · sigmoid x, in the two spellings of the programs. -/
module

public import Idealize.ShloMosaic.Lib.Claim
public import Idealize.ShloMosaic.PureOps.Ideal
public import Mathlib.Analysis.SpecialFunctions.Trigonometric.DerivHyp

@[expose] public section

noncomputable section

open Idealize.ShloMosaic

namespace Cert.Silu

theorem half : Ideal.ofBits .f32 0x3F000000#32 = ((1 / 2 : ℝ) : EReal) := by
  simp [Ideal.ofBits, Ideal.ieee]
  rw [← EReal.coe_mul]
  norm_num

theorem one : Ideal.ofBits .f32 0x3F800000#32 = 1 := by
  simp [Ideal.ofBits, Ideal.ieee]
  rw [← EReal.coe_mul, ← EReal.coe_one]
  norm_num

theorem tanh_half (r : ℝ) : (1 + Real.exp (-r))⁻¹ = 1 / 2 + 1 / 2 * Real.tanh (1 / 2 * r) := by
  rw [Real.tanh_eq_sinh_div_cosh, Real.sinh_eq, Real.cosh_eq]
  have h : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [h]
  set p := Real.exp (1 / 2 * r)
  set q := Real.exp (-(1 / 2 * r))
  have hp : 0 < p := Real.exp_pos _
  have hq : 0 < q := Real.exp_pos _
  field_simp
  nlinarith [h2]

/-- Half the argument, plus itself times its hyperbolic tangent, is the argument by its logistic. -/
theorem silu (x : EReal) (hx : x ≠ ⊥) :
    Ideal.ofBits .f32 0x3F000000#32 * x + Ideal.ofBits .f32 0x3F000000#32 * x * Ideal.tanh (Ideal.ofBits .f32 0x3F000000#32 * x)
      = x * Ideal.logistic x := by
  rw [half]
  induction x with
  | bot => exact absurd rfl hx
  | top =>
    have h : ((1 / 2 : ℝ) : EReal) * ⊤ = ⊤ := EReal.coe_mul_top_of_pos (by norm_num)
    rw [h]; simp
  | coe r =>
    rw [← EReal.coe_mul, Ideal.tanh_coe, ← EReal.coe_mul, ← EReal.coe_add, Ideal.logistic_coe, ← EReal.coe_mul, tanh_half]
    congr 1; ring

theorem silu_of (a x : EReal) (h : a = x) (hx : x ≠ ⊥) :
    Ideal.ofBits .f32 0x3F000000#32 * a + Ideal.ofBits .f32 0x3F000000#32 * a * Ideal.tanh (Ideal.ofBits .f32 0x3F000000#32 * a)
      = x * Ideal.div 1 (1 + Ideal.exp (-x)) := by
  rw [h]; exact silu x hx

end Cert.Silu
end
-- ==== Proof.AdaLn.lean ====
/- The modulation vectors: what a grid point leaves in its block, and the result array after the run. -/
module

public import proofs.«01_k».proof.Defs
public import proofs.«01_k».proof.Proof.Silu
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Pre_above_minus_infinity
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdaLn
open Cert.Kernel4Ideal Cert.Kernel4Ideal.Gen Cert.Reference4Ideal.Read

variable (m : (ℓ : Loc nD τ sig) → Buf (Elt Ideal) ℓ)

theorem idx : ∀ t : Fin cfg0.N,
    win0_0.index t = ![0, 0] ∧ win0_1.index t = ![0, (grid0.coords t 0).val] ∧ win0_2.index t = ![0, (grid0.coords t 0).val]
    ∧ win0_3.index t = ![0, (grid0.coords t 0).val] :=
  (by decide +kernel : ∀ t : Fin grid0.N, _)

/-- The precondition says of every element that it is not minus infinity. -/
theorem not_bot (h : Cert.Pre_Kernel4Ideal_above_minus_infinity m) (c : Dev nD) (i : Cert.Kernel4Ideal.S16x1024.Idx) :
    @Ne EReal (m (c.tc.loc main_arg0) i) ⊥ := by
  have e := congrFun (h c) i
  simp only [Cert.Pre_above_minus_infinity.fn] at e
  intro hb
  pointwise at e
  rw [show @Eq EReal (m (c.tc.loc main_arg0) i) ⊥ from hb] at e
  rw [decide_eq_false (by exact not_lt_bot)] at e
  exact absurd e (by decide)

/-- What a grid point leaves at an element of its block is the reference's value where that element sits. -/
theorem point (h : Cert.Pre_Kernel4Ideal_above_minus_infinity m) (c : Dev nD) (t : Fin cfg0.N) (y : S16x1024.Idx) :
    k0_pay1 (F := Ideal) (iblk m c 0 t) (iblk m c 1 t) (iblk m c 2 t) y =
    val_main_v4 (F := Ideal) (m (c.tc.loc main_arg0)) (m (c.tc.loc main_arg1)) (m (c.tc.loc main_arg2)) (((cfg0.win 3).blk t).view.emb y) := by
  pointwise [k0_pay1, val_main_v4, val_main_v3, val_main_v2, val_main_v1, val_main_v0, val_main_call0_v5, val_main_call0_v4,
    val_main_call0_v3, val_main_call0_v2, val_main_call0_v1, val_main_call0_v0, val_main_call0_cst, val_main_call0_cst_0]
  refine congrArg₂ (fun a b : EReal => a + b) (Finset.sum_congr rfl fun k _ => congrArg₂ (fun a b : EReal => a * b) (Cert.Silu.silu_of _ _ ?_ (not_bot m h c _)) ?_) ?_
  all_goals blk_point [iblk, V, idx t]

/-- The result array after the run is the reference's value of the arguments. -/
theorem final (h : Cert.Pre_Kernel4Ideal_above_minus_infinity m) (c : Dev nD) : (dats m 0 c).arrAt 3 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m h c t y

end Cert.AdaLn
end
-- ==== Proof.InBase.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProj
open Cert.Kernel2Ideal Cert.Kernel2Ideal.Gen Cert.Reference2Ideal.Read

variable (m : (ℓ : Loc nD τ sig) → Buf (Elt Ideal) ℓ)

theorem idx : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, 1]
    ∧ win0_3.index t = ![0, 0]
    ∧ win0_4.index t = ![0, 0] ∧ win0_5.index t = ![0, 0] ∧ win0_6.index t = ![0, 0]
    ∧ win0_7.index t = ![(grid0.coords t 0).val, (grid0.coords t 1).val, 0]
    ∧ win0_8.index t = ![(grid0.coords t 0).val, 0, (grid0.coords t 1).val, 0]
    ∧ win0_9.index t = ![(grid0.coords t 0).val, 0, (grid0.coords t 1).val, 0, 0]
    ∧ win0_10.index t = ![(grid0.coords t 0).val, 0, (grid0.coords t 1).val, 0]
    ∧ win0_11.index t = ![(grid0.coords t 0).val, 0, (grid0.coords t 1).val, 0]
    ∧ win0_12.index t = ![(grid0.coords t 0).val, 0, (grid0.coords t 1).val] :=
  (by decide +kernel : ∀ t : Fin grid0.N, _)

theorem v15 (c : Dev nD) : V m c main_v15 = shapeCast S16x1x3072 (m (c.tc.loc main_arg1)) Gen.shapeCasts_S16x3072_S16x1x3072 := by
  show StableHlo.after (List.flatten [hostOps0, hostOps0_1, hostOps0_2]) (fun b => m (c, b)) (Proc.devRef .tc main_v15) = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem v16 (c : Dev nD) : V m c main_v16 = shapeCast S1x1024 (m (c.tc.loc main_arg2)) Gen.shapeCasts_S1024_S1x1024 := by
  show StableHlo.after (List.flatten [hostOps0, hostOps0_1, hostOps0_2]) (fun b => m (c, b)) (Proc.devRef .tc main_v16) = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem v1 (c : Dev nD) : V m c main_v1 = truncf (F := Ideal) .bf16 (extractStridedSlice S1024x2560 ![0, 0] (m (c.tc.loc main_arg3)) Gen.slices_S1024x4616_S1024x2560_0_0) Gen.bitsLt_bf16_f32 := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem v9 (c : Dev nD) : V m c main_v9 = truncf (F := Ideal) .bf16 (concatenate S1024x1536 1 [⟨S1024x512, mulf (F := Ideal) (extractStridedSlice S1024x512 ![0, 2568] (m (c.tc.loc main_arg3)) Gen.slices_S1024x4616_S1024x512_0_2568) (broadcastInDim S1024x512 ![] Gen.bcast_S_S1024x512 (constant S_ .f32 0x3E38AA3B#32))⟩,
      ⟨S1024x512, extractStridedSlice S1024x512 ![0, 3592] (m (c.tc.loc main_arg3)) Gen.slices_S1024x4616_S1024x512_0_3592⟩,
      ⟨S1024x512, extractStridedSlice S1024x512 ![0, 4104] (m (c.tc.loc main_arg3)) Gen.slices_S1024x4616_S1024x512_0_4104⟩] Gen.concatenates_S1024x512_S1024x512_S1024x512_S1024x1536_d1) Gen.bitsLt_bf16_f32 := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem v14 (c : Dev nD) : V m c main_v14 = truncf (F := Ideal) .bf16 (pad S528x1024 ![0, 0] ![8, 0] ![0, 0] (transpose S520x1024 [1, 0] (concatenate S1024x520 1
      [⟨S1024x512, extractStridedSlice S1024x512 ![0, 3080] (m (c.tc.loc main_arg3)) Gen.slices_S1024x4616_S1024x512_0_3080⟩,
       ⟨S1024x8, extractStridedSlice S1024x8 ![0, 2560] (m (c.tc.loc main_arg3)) Gen.slices_S1024x4616_S1024x8_0_2560⟩] Gen.concatenates_S1024x512_S1024x8_S1024x520_d1) Gen.transposes_S1024x520_S520x1024_1_0)
      (sitofp .f32 (constantI S_ 32 0#32)) Gen.pads_S520x1024_S528x1024_080_000 Gen.h_S_) Gen.bitsLt_bf16_f32 := by
  show StableHlo.after (List.flatten [hostOps0, hostOps0_1, hostOps0_2]) (fun b => m (c, b)) (Proc.devRef .tc main_v14) = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem ib1 (c : Dev nD) (t : Fin cfg0.N) (k : Fin 1024) (b : Fin 16) (hb : b.val = (grid0.coords t 0).val) :
    iblk m c 1 t (ix3 0 0 k) = m (c.tc.loc main_arg1) (ix2 b ⟨k.val, by omega⟩) := by
  blk_simp [iblk]
  rw [v15]
  pointwise
  blk_ext [idx t]

theorem ib2 (c : Dev nD) (t : Fin cfg0.N) (k : Fin 1024) (b : Fin 16) (hb : b.val = (grid0.coords t 0).val) :
    iblk m c 2 t (ix3 0 0 k) = m (c.tc.loc main_arg1) (ix2 b ⟨1024 + k.val, by omega⟩) := by
  blk_simp [iblk]
  rw [v15]
  pointwise
  blk_ext [idx t]

theorem ib3 (c : Dev nD) (t : Fin cfg0.N) (k : Fin 1024) :
    iblk m c 3 t (ix2 0 k) = m (c.tc.loc main_arg2) (ix1 k) := by
  blk_simp [iblk]
  rw [v16]
  pointwise
  blk_ext [idx t]

theorem ib4 (c : Dev nD) (t : Fin cfg0.N) (k : Fin 1024) (n : Fin 2560) (n' : Fin 4616) (hn : n'.val = n.val) :
    iblk m c 4 t (ix2 k n) = m (c.tc.loc main_arg3) (ix2 k n') := by
  blk_simp [iblk]
  rw [v1]
  pointwise
  blk_ext [idx t]

theorem emb5 (t : Fin cfg0.N) (i : S528x1024.Idx) : (win0_5.blk t).view.emb i = i := by blk_ext [idx t]
theorem emb6 (t : Fin cfg0.N) (i : S1024x1536.Idx) : (win0_6.blk t).view.emb i = i := by blk_ext [idx t]

theorem ib5 (c : Dev nD) (t : Fin cfg0.N) (k : Fin 1024) (n : Fin 528) (n' : Fin 4616)
    (hn : n.val < 512 ∧ n'.val = 3080 + n.val ∨ 512 ≤ n.val ∧ n.val < 520 ∧ n'.val + 512 = 2560 + n.val) :
    iblk m c 5 t (ix2 n k) = m (c.tc.loc main_arg3) (ix2 k n') := by
  blk_simp [iblk]
  rw [v14, emb5]
  pointwise
  rw [dif_pos (show n.val < 520 by omega)]
  rcases hn with ⟨h, e⟩ | ⟨h, h', e⟩
  · rw [dif_pos h]; congr 2; exact Fin.ext (by simp; omega)
  · rw [dif_neg (by omega)]; congr 2; exact Fin.ext (by simp; omega)

theorem ib6q (c : Dev nD) (t : Fin cfg0.N) (k : Fin 1024) (n : Fin 1536) (n' : Fin 4616) (hn : n.val < 512 ∧ n'.val = 2568 + n.val) :
    iblk m c 6 t (ix2 k n) = FloatOps.mulf (F := Ideal) (φ := .f32) (m (c.tc.loc main_arg3) (ix2 k n')) (Ideal.ofBits .f32 0x3E38AA3B#32) := by
  blk_simp [iblk]
  rw [v9, emb6]
  pointwise
  rw [dif_pos hn.1]; congr 3; exact Fin.ext (by simp; omega)

theorem ib6 (c : Dev nD) (t : Fin cfg0.N) (k : Fin 1024) (n : Fin 1536) (n' : Fin 4616) (hn : 512 ≤ n.val ∧ n'.val + 512 = 3592 + n.val) :
    iblk m c 6 t (ix2 k n) = m (c.tc.loc main_arg3) (ix2 k n') := by
  blk_simp [iblk]
  rw [v9, emb6]
  pointwise
  rw [dif_neg (by omega)]
  by_cases h : n.val - 512 < 512
  · rw [dif_pos h]; congr 2; exact Fin.ext (by simp; omega)
  · rw [dif_neg h]; congr 2; exact Fin.ext (by simp; omega)

/-- The modulated input, at a row of the block of a grid point. -/
theorem h_at (c : Dev nD) (t : Fin cfg0.N) (r : Fin 512) (k : Fin 1024) (b : Fin 16) (s : Fin 4096)
    (hb : b.val = (grid0.coords t 0).val) (hs : s.val = 512 * (grid0.coords t 1).val + r.val) :
    k0_pay3 (F := Ideal) (iblk m c 0 t) (iblk m c 3 t) (iblk m c 2 t) (iblk m c 1 t) (ix2 r k)
      = val_main_v23 (F := Ideal) (m (c.tc.loc main_arg0)) (m (c.tc.loc main_arg1)) (m (c.tc.loc main_arg2)) (ix3 b s k) := by
  pointwise [k0_pay3, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v1, val_main_v0,
    val_main_cst, val_main_cst_0, val_main_cst_1, val_main_cst_2]
  rw [ib1 m c t k b hb, ib2 m c t k b hb, ib3 m c t k]
  simp only [← mul_assoc]
  blk_point [iblk, V, idx t]
  all_goals trace_state

end Cert.InProj
end
-- ==== Proof.InDefs.lean ====
module

public import proofs.«01_k».proof.Proof.Gen.Reference2Ideal
public import proofs.«01_k».proof.Proof.Gen.Reference2Ideal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProj
open Cert.Reference2Ideal Cert.Reference2Ideal.Gen Cert.Reference2Ideal.Read

/-- The product of a row of the modulated input with a column of the projection weights. -/
def dotAt (x0 : FVec Ideal S16x4096x1024 .f32) (x1 : FVec Ideal S16x3072 .f32) (x2 : FVec Ideal S1024 .f32) (x3 : FVec Ideal S1024x4616 .f32) (b : Fin 16) (s : Fin 4096) (n : Fin 4616) : Ideal .f32 :=
  ∑ k : Fin 1024, (val_main_v23 (F := Ideal) x0 x1 x2 (ix3 b s k) : EReal) * (x3 (ix2 k n) : EReal)

/-- A choice made by whether a small number is below 64. -/
theorem sel {α : Type} (d : ℕ) (hd : d < 128) (a b : α) :
    Scalar.select (IntOp.cmpi .slt (BitVec.ofNat 32 d) 64#32) a b = if d < 64 then a else b := by
  have h : ∀ d : Fin 128, IntOp.cmpi .slt (BitVec.ofNat 32 d.val) 64#32 = if d.val < 64 then 1#1 else 0#1 := by decide
  have h' := h ⟨d, hd⟩
  simp only at h'
  rw [h']
  by_cases hc : d < 64
  · rw [if_pos hc, if_pos hc]; rfl
  · rw [if_neg hc, if_neg hc]; rfl

/-- A pair's element in the half of its first head: kept below 64, zero above. -/
theorem sel_first (d d' : ℕ) (hd : d < 128) (he : d' = d) {P : Prop} [Decidable P] (hP : P) {a X z : EReal} (ha : a = X) (hz : z = 0) :
    Scalar.select (IntOp.cmpi .slt (BitVec.ofNat 32 d) 64#32) a z = if (P ↔ d' < 64) then X else 0 := by
  subst he ha hz
  rw [sel d' hd]
  by_cases h : d' < 64
  · rw [if_pos h, if_pos (by simp [hP, h])]
  · rw [if_neg h, if_neg (by simp [hP, h])]

/-- A pair's element in the half of its second head: zero below 64, kept above. -/
theorem sel_second (d d' : ℕ) (hd : d < 128) (he : d' = d) {P : Prop} [Decidable P] (hP : ¬ P) {a X z : EReal} (ha : a = X) (hz : z = 0) :
    Scalar.select (IntOp.cmpi .slt (BitVec.ofNat 32 d) 64#32) z a = if (P ↔ d' < 64) then X else 0 := by
  subst he ha hz
  rw [sel d' hd]
  by_cases h : d' < 64
  · rw [if_pos h, if_neg (by simp [hP, h])]
  · rw [if_neg h, if_pos (by simp [hP, h])]

theorem zero_at (i : S_.Idx) : (id (constant (F := Ideal) S_ .f32 0#32) i : EReal) = 0 := Ideal.ofBits_zero_f32

end Cert.InProj
end
-- ==== Proof.InSum.lean ====
module

public import proofs.«01_k».proof.Proof.InBase
public import proofs.«01_k».proof.Proof.InDefs
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProj
open Cert.Kernel2Ideal Cert.Kernel2Ideal.Gen Cert.Reference2Ideal.Read

variable (m : (ℓ : Loc nD τ sig) → Buf (Elt Ideal) ℓ)

/-- `dotAt` at the run's arguments. -/
abbrev dotK (c : Dev nD) (b : Fin 16) (s : Fin 4096) (n : Fin 4616) : EReal :=
  dotAt (m (c.tc.loc main_arg0)) (m (c.tc.loc main_arg1)) (m (c.tc.loc main_arg2)) (m (c.tc.loc main_arg3)) b s n

/-- An array holds a grid point's rows of the modulated input. -/
def Rows (c : Dev nD) (t : Fin cfg0.N) (H : FVec Ideal S512x1024 .bf16) : Prop :=
  ∀ (r : Fin 512) (k : Fin 1024) (b : Fin 16) (s : Fin 4096), b.val = (grid0.coords t 0).val →
    s.val = 512 * (grid0.coords t 1).val + r.val →
    H (ix2 r k) = val_main_v23 (F := Ideal) (m (c.tc.loc main_arg0)) (m (c.tc.loc main_arg1)) (m (c.tc.loc main_arg2)) (ix3 b s k)

/-- A sum of products whose factors are the modulated input's and the weights' entries. -/
theorem sumC {c : Dev nD} (b : Fin 16) (s : Fin 4096) (n : Fin 4616) {f g : Fin 1024 → EReal}
    (hf : ∀ k, f k = val_main_v23 (F := Ideal) (m (c.tc.loc main_arg0)) (m (c.tc.loc main_arg1)) (m (c.tc.loc main_arg2)) (ix3 b s k))
    (hg : ∀ k, g k = m (c.tc.loc main_arg3) (ix2 k n)) : (∑ k : Fin 1024, f k * g k) = dotK m c b s n :=
  Finset.sum_congr rfl fun k _ => congrArg₂ (@HMul.hMul EReal EReal EReal _) (hf k) (hg k)

theorem sum5 {c : Dev nD} {t : Fin cfg0.N} {H : FVec Ideal S512x1024 .bf16} (hH : Rows m c t H) (r : Fin 512) (n : Fin 528)
    (b : Fin 16) (s : Fin 4096) (n' : Fin 4616) (hb : b.val = (grid0.coords t 0).val)
    (hs : s.val = 512 * (grid0.coords t 1).val + r.val)
    (hn : n.val < 512 ∧ n'.val = 3080 + n.val ∨ 512 ≤ n.val ∧ n.val < 520 ∧ n'.val + 512 = 2560 + n.val) :
    (∑ k : Fin 1024, @HMul.hMul EReal EReal EReal _ (iblk m c 5 t (ix2 n k)) (H (ix2 r k))) = dotK m c b s n' :=
  Finset.sum_congr rfl fun k _ => by rw [hH r k b s hb hs, ib5 m c t k n n' hn]; exact mul_comm _ _

/-- A scale under a sum is a scale of the sum, where it is a nonnegative real. -/
theorem sum_scale {ι : Type} [Fintype ι] [DecidableEq ι] (a w : ι → EReal) (z : EReal) (h0 : 0 ≤ z) (h1 : z ≠ ⊤) :
    (∑ k, a k * (w k * z)) = (∑ k, a k * w k) * z := by
  have key : ∀ s : Finset ι, (∑ k ∈ s, a k * (w k * z)) = (∑ k ∈ s, a k * w k) * z := fun s => by
    induction s using Finset.induction_on with
    | empty => simp
    | insert i s hi ih =>
      rw [Finset.sum_insert hi, Finset.sum_insert hi, ih, EReal.right_distrib_of_nonneg_of_ne_top h0 h1, mul_assoc]
  exact key _

theorem lit_real : ∃ r : ℝ, 0 ≤ r ∧ Ideal.ofBits .f32 0x3E38AA3B#32 = (r : EReal) := by
  simp [Ideal.ofBits, Ideal.ieee]
  exact ⟨12102203 * (2 ^ 26)⁻¹, by positivity, (EReal.coe_mul _ _).symm⟩

/-- The same where the second factors are the weights' entries by the query scale: the scale is taken out of the sum. -/
theorem sumQ {c : Dev nD} (b : Fin 16) (s : Fin 4096) (n : Fin 4616) {f g : Fin 1024 → EReal}
    (hf : ∀ k, f k = val_main_v23 (F := Ideal) (m (c.tc.loc main_arg0)) (m (c.tc.loc main_arg1)) (m (c.tc.loc main_arg2)) (ix3 b s k))
    (hg : ∀ k, g k = FloatOps.mulf (F := Ideal) (φ := .f32) (m (c.tc.loc main_arg3) (ix2 k n)) (Ideal.ofBits .f32 0x3E38AA3B#32)) :
    (∑ k : Fin 1024, f k * g k) = @HMul.hMul EReal EReal EReal _ (dotK m c b s n) (Ideal.ofBits .f32 0x3E38AA3B#32) := by
  obtain ⟨z, hz, e⟩ := lit_real
  refine Eq.trans (Finset.sum_congr rfl fun k _ => congrArg₂ (@HMul.hMul EReal EReal EReal _) (hf k) (hg k)) ?_
  exact sum_scale _ _ _ (by rw [e]; exact_mod_cast hz) (by rw [e]; exact EReal.coe_ne_top z)

end Cert.InProj
end
-- ==== Proof.InRef.lean ====
module

public import proofs.«01_k».proof.Proof.Gen.Reference2Ideal
public import proofs.«01_k».proof.Proof.Gen.Reference2Ideal.Read
public import proofs.«01_k».proof.Proof.InDefs
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProj
open Cert.Reference2Ideal Cert.Reference2Ideal.Gen Cert.Reference2Ideal.Read

theorem ref52 (x0 : FVec Ideal S16x4096x1024 .f32) (x1 : FVec Ideal S16x3072 .f32) (x2 : FVec Ideal S1024 .f32) (x3 : FVec Ideal S1024x4616 .f32) (b : Fin 16) (s : Fin 4096) (n : Fin 2560) :
    val_main_v52 (F := Ideal) x0 x1 x2 x3 (ix3 b s n) = dotAt x0 x1 x2 x3 b s ⟨n.val, by omega⟩ := by
  pointwise [val_main_v52, val_main_v25, val_main_v24]
  rfl

theorem ref53 (x0 : FVec Ideal S16x4096x1024 .f32) (x1 : FVec Ideal S16x3072 .f32) (x2 : FVec Ideal S1024 .f32) (x3 : FVec Ideal S1024x4616 .f32) (b : Fin 16) (p : Fin 4) (s : Fin 4096) (l : Fin 128) :
    val_main_v53 (F := Ideal) x0 x1 x2 x3 (ix4 b p s l) = (dotAt x0 x1 x2 x3 b s ⟨2568 + (p.val * 128 + l.val), by omega⟩ : EReal) * Ideal.ofBits .f32 1043900987#32 := by
  pointwise [val_main_v53, val_main_v34, val_main_v33, val_main_v32, val_main_v31, val_main_cst_3, val_main_v27, val_main_v24]
  rfl

theorem ref57 (x0 : FVec Ideal S16x4096x1024 .f32) (x1 : FVec Ideal S16x3072 .f32) (x2 : FVec Ideal S1024 .f32) (x3 : FVec Ideal S1024x4616 .f32) (b : Fin 16) (p : Fin 4) (s : Fin 4096) (l : Fin 128) :
    val_main_v57 (F := Ideal) x0 x1 x2 x3 (ix4 b p s l) = dotAt x0 x1 x2 x3 b s ⟨4104 + (p.val * 128 + l.val), by omega⟩ := by
  pointwise [val_main_v57, val_main_v40, val_main_v39, val_main_v30, val_main_v24]
  rfl

theorem ref58 (x0 : FVec Ideal S16x4096x1024 .f32) (x1 : FVec Ideal S16x3072 .f32) (x2 : FVec Ideal S1024 .f32) (x3 : FVec Ideal S1024x4616 .f32) (b : Fin 16) (p : Fin 8) (s : Fin 4096) :
    val_main_v58 (F := Ideal) x0 x1 x2 x3 (ix3 b p s) = dotAt x0 x1 x2 x3 b s ⟨2560 + p.val, by omega⟩ := by
  pointwise [val_main_v58, val_main_v26, val_main_v24]
  rfl

/-- The pairs' keys: of each 128, those of the pair's first head, then those of its second. -/
theorem ref54 (x0 : FVec Ideal S16x4096x1024 .f32) (x1 : FVec Ideal S16x3072 .f32) (x2 : FVec Ideal S1024 .f32) (x3 : FVec Ideal S1024x4616 .f32) (b : Fin 16) (p : Fin 4) (s : Fin 32) (d : Fin 128) (l : Fin 256) (s' : Fin 4096)
    (hs : s'.val = s.val * 128 + l.val % 128) :
    val_main_v54 (F := Ideal) x0 x1 x2 x3 (ix5 b p s d l)
      = if (l.val < 128 ↔ d.val < 64) then dotAt x0 x1 x2 x3 b s' ⟨3080 + (p.val * 128 + d.val), by omega⟩ else (0 : EReal) := by
  pointwise [val_main_v54, val_main_v48, val_main_v47, val_main_v46, val_main_v45, val_main_v44, val_main_v43, val_main_v42, val_main_v41,
   val_main_v36, val_main_v35, val_main_v28, val_main_v24, val_main_c, val_main_cst_4, val_main_cst_5, val_main_call0_v0, val_main_call0_v1, val_main_call0_v2, val_main_call1_v0, val_main_call1_v1, val_main_call1_v2]
  by_cases hl : l.val < 128
  · rw [dif_pos hl]
    have e : s' = ⟨s.val * 128 + l.val, by omega⟩ := Fin.ext (by simp only []; omega)
    exact sel_first _ _ d.isLt rfl hl (by rw [e]; rfl) (zero_at _)
  · rw [dif_neg hl]
    have e : s' = ⟨s.val * 128 + (l.val - 128), by omega⟩ := Fin.ext (by simp only []; omega)
    exact sel_second _ _ d.isLt rfl hl (by rw [e]; rfl) (zero_at _)

/-- The pairs' values before the last reshape. -/
theorem ref51 (x0 : FVec Ideal S16x4096x1024 .f32) (x1 : FVec Ideal S16x3072 .f32) (x2 : FVec Ideal S1024 .f32) (x3 : FVec Ideal S1024x4616 .f32) (b : Fin 16) (p : Fin 4) (s : Fin 32) (l : Fin 256) (d : Fin 128) (s' : Fin 4096)
    (hs : s'.val = s.val * 128 + l.val % 128) :
    val_main_v51 (F := Ideal) x0 x1 x2 x3 (ix5 b p s l d)
      = if (l.val < 128 ↔ d.val < 64) then dotAt x0 x1 x2 x3 b s' ⟨3592 + (p.val * 128 + d.val), by omega⟩ else (0 : EReal) := by
  pointwise [val_main_v51, val_main_v50, val_main_v49, val_main_v43, val_main_v42, val_main_v41,
   val_main_v38, val_main_v37, val_main_v29, val_main_v24, val_main_c, val_main_cst_6, val_main_cst_7, val_main_call2_v0, val_main_call2_v1, val_main_call2_v2, val_main_call3_v0, val_main_call3_v1, val_main_call3_v2]
  by_cases hl : l.val < 128
  · rw [dif_pos hl]
    have e : s' = ⟨s.val * 128 + l.val, by omega⟩ := Fin.ext (by simp only []; omega)
    exact sel_first _ _ d.isLt rfl hl (by rw [e]; rfl) (zero_at _)
  · rw [dif_neg hl]
    have e : s' = ⟨s.val * 128 + (l.val - 128), by omega⟩ := Fin.ext (by simp only []; omega)
    exact sel_second _ _ d.isLt rfl hl (by rw [e]; rfl) (zero_at _)

/-- Where the last reshape reads an element of the pairs' values. -/
theorem idx55 (b : Fin 16) (p : Fin 4) (s : Fin 8192) (d : Fin 128) :
    idx_main_v55 (ix4 b p s d) = ix5 b p ⟨s.val / 256, by omega⟩ ⟨s.val % 256, by omega⟩ d := by
  have hb := b.isLt
  have hp := p.isLt
  have hs := s.isLt
  have hd := d.isLt
  funext a
  match a with
  | ⟨0, _⟩ => exact Fin.ext (by show (((b.val * 4 + p.val) * 8192 + s.val) * 128 + d.val) / 4194304 = b.val; omega)
  | ⟨1, _⟩ => exact Fin.ext (by show (((b.val * 4 + p.val) * 8192 + s.val) * 128 + d.val) / 1048576 % 4 = p.val; omega)
  | ⟨2, _⟩ => exact Fin.ext (by show (((b.val * 4 + p.val) * 8192 + s.val) * 128 + d.val) / 32768 % 32 = s.val / 256; omega)
  | ⟨3, _⟩ => exact Fin.ext (by show (((b.val * 4 + p.val) * 8192 + s.val) * 128 + d.val) / 128 % 256 = s.val % 256; omega)
  | ⟨4, _⟩ => exact Fin.ext (by show (((b.val * 4 + p.val) * 8192 + s.val) * 128 + d.val) % 128 = d.val; omega)

theorem v56 (x0 : FVec Ideal S16x4096x1024 .f32) (x1 : FVec Ideal S16x3072 .f32) (x2 : FVec Ideal S1024 .f32) (x3 : FVec Ideal S1024x4616 .f32) (i : S16x4x8192x128.Idx) :
    val_main_v56 (F := Ideal) x0 x1 x2 x3 i = val_main_v51 (F := Ideal) x0 x1 x2 x3 (idx_main_v55 i) := by
  rw [val_main_v56_apply, val_main_v55_apply]
  generalize val_main_v51 (F := Ideal) x0 x1 x2 x3 (idx_main_v55 i) = z
  rfl

theorem ref56 (x0 : FVec Ideal S16x4096x1024 .f32) (x1 : FVec Ideal S16x3072 .f32) (x2 : FVec Ideal S1024 .f32) (x3 : FVec Ideal S1024x4616 .f32) (b : Fin 16) (p : Fin 4) (s : Fin 8192) (d : Fin 128) (s' : Fin 4096)
    (hs : s'.val = s.val / 256 * 128 + s.val % 128) :
    val_main_v56 (F := Ideal) x0 x1 x2 x3 (ix4 b p s d)
      = if (s.val % 256 < 128 ↔ d.val < 64) then dotAt x0 x1 x2 x3 b s' ⟨3592 + (p.val * 128 + d.val), by omega⟩ else (0 : EReal) := by
  rw [v56, idx55]
  exact ref51 x0 x1 x2 x3 b p ⟨s.val / 256, by omega⟩ ⟨s.val % 256, by omega⟩ d s' (by simp only []; omega)

end Cert.InProj
end
-- ==== Proof.InProj.lean ====
/- The input projection: what a grid point leaves in each result block, and the six result arrays after the run.
   The kernel multiplies the modulated rows by its own packings of the weights; the reference multiplies once by the whole
   weight array and cuts the product up. Both are entries of the same product. -/
module

public import proofs.«01_k».proof.Proof.InSum
public import proofs.«01_k».proof.Proof.InRef
public import proofs.«01_k».proof.Proof.Gen.Kernel2Ideal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProj
open Cert.Kernel2Ideal Cert.Kernel2Ideal.Gen Cert.Reference2Ideal.Read

variable (m : (ℓ : Loc nD τ sig) → Buf (Elt Ideal) ℓ)

set_option maxHeartbeats 1000000 in
theorem t7 (c : Dev nD) (t : Fin cfg0.N) (b : Fin 16) (hb : b.val = (grid0.coords t 0).val) (y : S1x512x2560.Idx)
    (s : Fin 4096) (hs : s.val = 512 * (grid0.coords t 1).val + (y 1).val) (n : Fin 4616) (hn : n.val = (y 2).val) :
    (dats m 0 c).after 7 t y = dotK m c b s n := by
  rw [after0_7]
  simp only [outsAt0]
  frame_out
  have hH : Rows m c t (k0_pay3 (iblk m c 0 t) (iblk m c 3 t) (iblk m c 2 t) (iblk m c 1 t)) := fun r k b s hb hs => h_at m c t r k b s hb hs
  generalize k0_pay3 (iblk m c 0 t) (iblk m c 3 t) (iblk m c 2 t) (iblk m c 1 t) = H at hH ⊢
  canon_tiles x h
  all_goals pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132]
  all_goals exact sumC m b s n (fun k => hH _ k b s hb (by simp only []; omega)) (fun k => ib4 m c t k _ n (by simp only []; omega))

set_option maxHeartbeats 1000000 in
theorem t8 (c : Dev nD) (t : Fin cfg0.N) (b : Fin 16) (hb : b.val = (grid0.coords t 0).val) (y : S1x4x512x128.Idx)
    (s : Fin 4096) (hs : s.val = 512 * (grid0.coords t 1).val + (y 2).val) (n : Fin 4616) (hn : n.val = 2568 + ((y 1).val * 128 + (y 3).val)) :
    (dats m 0 c).after 8 t y = (dotK m c b s n : EReal) * Ideal.ofBits .f32 0x3E38AA3B#32 := by
  rw [after0_8]
  simp only [outsAt0]
  frame_out
  have hH : Rows m c t (k0_pay3 (iblk m c 0 t) (iblk m c 3 t) (iblk m c 2 t) (iblk m c 1 t)) := fun r k b s hb hs => h_at m c t r k b s hb hs
  generalize k0_pay3 (iblk m c 0 t) (iblk m c 3 t) (iblk m c 2 t) (iblk m c 1 t) = H at hH ⊢
  canon_tiles x h
  all_goals pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132]
  all_goals exact sumQ m b s n (fun k => hH _ k b s hb (by simp only []; omega)) (fun k => ib6q m c t k _ n (by simp only []; omega))

set_option maxHeartbeats 1000000 in
theorem t11 (c : Dev nD) (t : Fin cfg0.N) (b : Fin 16) (hb : b.val = (grid0.coords t 0).val) (y : S1x4x512x128.Idx)
    (s : Fin 4096) (hs : s.val = 512 * (grid0.coords t 1).val + (y 2).val) (n : Fin 4616) (hn : n.val = 4104 + ((y 1).val * 128 + (y 3).val)) :
    (dats m 0 c).after 11 t y = dotK m c b s n := by
  rw [after0_11]
  simp only [outsAt0]
  frame_out
  have hH : Rows m c t (k0_pay3 (iblk m c 0 t) (iblk m c 3 t) (iblk m c 2 t) (iblk m c 1 t)) := fun r k b s hb hs => h_at m c t r k b s hb hs
  generalize k0_pay3 (iblk m c 0 t) (iblk m c 3 t) (iblk m c 2 t) (iblk m c 1 t) = H at hH ⊢
  canon_tiles x h
  all_goals pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132]
  all_goals exact sumC m b s n (fun k => hH _ k b s hb (by simp only []; omega)) (fun k => ib6 m c t k _ n (by simp only []; omega))

set_option maxHeartbeats 1000000 in
theorem t12 (c : Dev nD) (t : Fin cfg0.N) (b : Fin 16) (hb : b.val = (grid0.coords t 0).val) (y : S1x8x512.Idx)
    (s : Fin 4096) (hs : s.val = 512 * (grid0.coords t 1).val + (y 2).val) (n : Fin 4616) (hn : n.val = 2560 + (y 1).val) :
    (dats m 0 c).after 12 t y = dotK m c b s n := by
  rw [after0_12]
  simp only [outsAt0]
  frame_out
  have hH : Rows m c t (k0_pay3 (iblk m c 0 t) (iblk m c 3 t) (iblk m c 2 t) (iblk m c 1 t)) := fun r k b s hb hs => h_at m c t r k b s hb hs
  generalize k0_pay3 (iblk m c 0 t) (iblk m c 3 t) (iblk m c 2 t) (iblk m c 1 t) = H at hH ⊢

  all_goals pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132]
  have h1 : (y 1).val < 8 := (y 1).isLt
  have h2 : (y 2).val < 512 := (y 2).isLt
  exact sum5 m hH _ _ b s n hb (by simp only []; omega) (by simp only []; omega)

set_option maxHeartbeats 1000000 in
theorem t9 (c : Dev nD) (t : Fin cfg0.N) (b : Fin 16) (hb : b.val = (grid0.coords t 0).val) (y : S1x4x4x128x256.Idx)
    (s : Fin 4096) (hs : s.val = 512 * (grid0.coords t 1).val + ((y 2).val * 128 + (y 4).val % 128)) (n : Fin 4616) (hn : n.val = 3080 + ((y 1).val * 128 + (y 3).val)) :
    (dats m 0 c).after 9 t y = if ((y 4).val < 128 ↔ (y 3).val < 64) then dotK m c b s n else (0 : EReal) := by
  rw [after0_9]
  simp only [outsAt0]
  frame_out
  have hH : Rows m c t (k0_pay3 (iblk m c 0 t) (iblk m c 3 t) (iblk m c 2 t) (iblk m c 1 t)) := fun r k b s hb hs => h_at m c t r k b s hb hs
  generalize k0_pay3 (iblk m c 0 t) (iblk m c 3 t) (iblk m c 2 t) (iblk m c 1 t) = H at hH ⊢
  canon_tiles x h
  all_goals pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132]
  all_goals first
    | exact sel_first _ _ (by omega) (by omega) (by omega) (sum5 m hH _ _ b s n hb (by simp only []; omega) (by simp only []; omega)) rfl
    | exact sel_second _ _ (by omega) (by omega) (by omega) (sum5 m hH _ _ b s n hb (by simp only []; omega) (by simp only []; omega)) rfl

set_option maxHeartbeats 1000000 in
theorem t10 (c : Dev nD) (t : Fin cfg0.N) (b : Fin 16) (hb : b.val = (grid0.coords t 0).val) (y : S1x4x1024x128.Idx)
    (s : Fin 4096) (hs : s.val = 512 * (grid0.coords t 1).val + ((y 2).val / 256 * 128 + (y 2).val % 128)) (n : Fin 4616) (hn : n.val = 3592 + ((y 1).val * 128 + (y 3).val)) :
    (dats m 0 c).after 10 t y = if ((y 2).val % 256 < 128 ↔ (y 3).val < 64) then dotK m c b s n else (0 : EReal) := by
  rw [after0_10]
  simp only [outsAt0]
  frame_out
  have hH : Rows m c t (k0_pay3 (iblk m c 0 t) (iblk m c 3 t) (iblk m c 2 t) (iblk m c 1 t)) := fun r k b s hb hs => h_at m c t r k b s hb hs
  generalize k0_pay3 (iblk m c 0 t) (iblk m c 3 t) (iblk m c 2 t) (iblk m c 1 t) = H at hH ⊢
  canon_tiles x h
  all_goals pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132]
  all_goals first
    | exact sel_first _ _ (by omega) (by omega) (by omega) (sumC m b s n (fun k => hH _ k b s hb (by simp only []; omega)) (fun k => ib6 m c t k _ n (by simp only []; omega))) rfl
    | exact sel_second _ _ (by omega) (by omega) (by omega) (sumC m b s n (fun k => hH _ k b s hb (by simp only []; omega)) (fun k => ib6 m c t k _ n (by simp only []; omega))) rfl

/-- Result array 0 of the call after the run is the reference's. -/
theorem final7 (c : Dev nD) : (dats m 0 c).arrAt 7 (cfgs 0).N = val_main_v52 (F := Ideal) (m (c.tc.loc main_arg0)) (m (c.tc.loc main_arg1)) (m (c.tc.loc main_arg2)) (m (c.tc.loc main_arg3)) := by
  refine (dats m 0 c).arrAt_eq_of_covers 7 _ (by decide +kernel) fun t _ y => ?_
  have hb := (grid0.coords t 0).isLt
  have hs := (grid0.coords t 1).isLt
  have g0 : grid0.bound 0 = 16 := rfl
  have g1 : grid0.bound 1 = 8 := rfl
  have y1 : (y 1).val < 512 := (y 1).isLt
  have y2 : (y 2).val < 2560 := (y 2).isLt
  have e : ((cfg0.win 7).blk t).view.emb y = ix3 (⟨(grid0.coords t 0).val, by omega⟩ : Fin 16) (⟨512 * (grid0.coords t 1).val + (y 1).val, by omega⟩ : Fin 4096) (⟨(y 2).val, by omega⟩ : Fin 2560) := by
    blk_ext [idx t]
  blk_simp
  rw [t7 m c t ⟨(grid0.coords t 0).val, by omega⟩ rfl y ⟨512 * (grid0.coords t 1).val + (y 1).val, by omega⟩ rfl ⟨(y 2).val, by omega⟩ rfl]
  refine Eq.trans ?_ (congrArg (val_main_v52 (F := Ideal) (m (c.tc.loc main_arg0)) (m (c.tc.loc main_arg1)) (m (c.tc.loc main_arg2)) (m (c.tc.loc main_arg3))) e).symm
  exact (ref52 _ _ _ _ _ _ _).symm

/-- Result array 1 of the call after the run is the reference's. -/
theorem final8 (c : Dev nD) : (dats m 0 c).arrAt 8 (cfgs 0).N = val_main_v53 (F := Ideal) (m (c.tc.loc main_arg0)) (m (c.tc.loc main_arg1)) (m (c.tc.loc main_arg2)) (m (c.tc.loc main_arg3)) := by
  refine (dats m 0 c).arrAt_eq_of_covers 8 _ (by decide +kernel) fun t _ y => ?_
  have hb := (grid0.coords t 0).isLt
  have hs := (grid0.coords t 1).isLt
  have g0 : grid0.bound 0 = 16 := rfl
  have g1 : grid0.bound 1 = 8 := rfl
  have y1 : (y 1).val < 4 := (y 1).isLt
  have y2 : (y 2).val < 512 := (y 2).isLt
  have y3 : (y 3).val < 128 := (y 3).isLt
  have e : ((cfg0.win 8).blk t).view.emb y = ix4 (⟨(grid0.coords t 0).val, by omega⟩ : Fin 16) (⟨(y 1).val, by omega⟩ : Fin 4) (⟨512 * (grid0.coords t 1).val + (y 2).val, by omega⟩ : Fin 4096) (⟨(y 3).val, by omega⟩ : Fin 128) := by
    blk_ext [idx t]
  blk_simp
  rw [t8 m c t ⟨(grid0.coords t 0).val, by omega⟩ rfl y ⟨512 * (grid0.coords t 1).val + (y 2).val, by omega⟩ rfl ⟨2568 + ((y 1).val * 128 + (y 3).val), by omega⟩ rfl]
  refine Eq.trans ?_ (congrArg (val_main_v53 (F := Ideal) (m (c.tc.loc main_arg0)) (m (c.tc.loc main_arg1)) (m (c.tc.loc main_arg2)) (m (c.tc.loc main_arg3))) e).symm
  exact (ref53 _ _ _ _ _ _ _ _).symm

/-- Result array 2 of the call after the run is the reference's. -/
theorem final9 (c : Dev nD) : (dats m 0 c).arrAt 9 (cfgs 0).N = val_main_v54 (F := Ideal) (m (c.tc.loc main_arg0)) (m (c.tc.loc main_arg1)) (m (c.tc.loc main_arg2)) (m (c.tc.loc main_arg3)) := by
  refine (dats m 0 c).arrAt_eq_of_covers 9 _ (by decide +kernel) fun t _ y => ?_
  have hb := (grid0.coords t 0).isLt
  have hs := (grid0.coords t 1).isLt
  have g0 : grid0.bound 0 = 16 := rfl
  have g1 : grid0.bound 1 = 8 := rfl
  have y1 : (y 1).val < 4 := (y 1).isLt
  have y2 : (y 2).val < 4 := (y 2).isLt
  have y3 : (y 3).val < 128 := (y 3).isLt
  have y4 : (y 4).val < 256 := (y 4).isLt
  have e : ((cfg0.win 9).blk t).view.emb y = ix5 (⟨(grid0.coords t 0).val, by omega⟩ : Fin 16) (⟨(y 1).val, by omega⟩ : Fin 4) (⟨4 * (grid0.coords t 1).val + (y 2).val, by omega⟩ : Fin 32) (⟨(y 3).val, by omega⟩ : Fin 128) (⟨(y 4).val, by omega⟩ : Fin 256) := by
    blk_ext [idx t]
  blk_simp
  rw [t9 m c t ⟨(grid0.coords t 0).val, by omega⟩ rfl y ⟨512 * (grid0.coords t 1).val + ((y 2).val * 128 + (y 4).val % 128), by omega⟩ rfl ⟨3080 + ((y 1).val * 128 + (y 3).val), by omega⟩ rfl]
  refine Eq.trans ?_ (congrArg (val_main_v54 (F := Ideal) (m (c.tc.loc main_arg0)) (m (c.tc.loc main_arg1)) (m (c.tc.loc main_arg2)) (m (c.tc.loc main_arg3))) e).symm
  exact (ref54 _ _ _ _ _ _ _ _ _ _ (by simp only []; omega)).symm

/-- Result array 3 of the call after the run is the reference's. -/
theorem final10 (c : Dev nD) : (dats m 0 c).arrAt 10 (cfgs 0).N = val_main_v56 (F := Ideal) (m (c.tc.loc main_arg0)) (m (c.tc.loc main_arg1)) (m (c.tc.loc main_arg2)) (m (c.tc.loc main_arg3)) := by
  refine (dats m 0 c).arrAt_eq_of_covers 10 _ (by decide +kernel) fun t _ y => ?_
  have hb := (grid0.coords t 0).isLt
  have hs := (grid0.coords t 1).isLt
  have g0 : grid0.bound 0 = 16 := rfl
  have g1 : grid0.bound 1 = 8 := rfl
  have y1 : (y 1).val < 4 := (y 1).isLt
  have y2 : (y 2).val < 1024 := (y 2).isLt
  have y3 : (y 3).val < 128 := (y 3).isLt
  have e : ((cfg0.win 10).blk t).view.emb y = ix4 (⟨(grid0.coords t 0).val, by omega⟩ : Fin 16) (⟨(y 1).val, by omega⟩ : Fin 4) (⟨1024 * (grid0.coords t 1).val + (y 2).val, by omega⟩ : Fin 8192) (⟨(y 3).val, by omega⟩ : Fin 128) := by
    blk_ext [idx t]
  blk_simp
  rw [t10 m c t ⟨(grid0.coords t 0).val, by omega⟩ rfl y ⟨512 * (grid0.coords t 1).val + ((y 2).val / 256 * 128 + (y 2).val % 128), by omega⟩ rfl ⟨3592 + ((y 1).val * 128 + (y 3).val), by omega⟩ rfl]
  refine Eq.trans ?_ (congrArg (val_main_v56 (F := Ideal) (m (c.tc.loc main_arg0)) (m (c.tc.loc main_arg1)) (m (c.tc.loc main_arg2)) (m (c.tc.loc main_arg3))) e).symm
  refine Eq.trans ?_ (ref56 _ _ _ _ _ _ _ _ ⟨512 * (grid0.coords t 1).val + ((y 2).val / 256 * 128 + (y 2).val % 128), by omega⟩ (by simp only []; omega)).symm
  have h : (1024 * (grid0.coords t 1).val + (y 2).val) % 256 = (y 2).val % 256 := by omega
  simp only [h]

/-- Result array 4 of the call after the run is the reference's. -/
theorem final11 (c : Dev nD) : (dats m 0 c).arrAt 11 (cfgs 0).N = val_main_v57 (F := Ideal) (m (c.tc.loc main_arg0)) (m (c.tc.loc main_arg1)) (m (c.tc.loc main_arg2)) (m (c.tc.loc main_arg3)) := by
  refine (dats m 0 c).arrAt_eq_of_covers 11 _ (by decide +kernel) fun t _ y => ?_
  have hb := (grid0.coords t 0).isLt
  have hs := (grid0.coords t 1).isLt
  have g0 : grid0.bound 0 = 16 := rfl
  have g1 : grid0.bound 1 = 8 := rfl
  have y1 : (y 1).val < 4 := (y 1).isLt
  have y2 : (y 2).val < 512 := (y 2).isLt
  have y3 : (y 3).val < 128 := (y 3).isLt
  have e : ((cfg0.win 11).blk t).view.emb y = ix4 (⟨(grid0.coords t 0).val, by omega⟩ : Fin 16) (⟨(y 1).val, by omega⟩ : Fin 4) (⟨512 * (grid0.coords t 1).val + (y 2).val, by omega⟩ : Fin 4096) (⟨(y 3).val, by omega⟩ : Fin 128) := by
    blk_ext [idx t]
  blk_simp
  rw [t11 m c t ⟨(grid0.coords t 0).val, by omega⟩ rfl y ⟨512 * (grid0.coords t 1).val + (y 2).val, by omega⟩ rfl ⟨4104 + ((y 1).val * 128 + (y 3).val), by omega⟩ rfl]
  refine Eq.trans ?_ (congrArg (val_main_v57 (F := Ideal) (m (c.tc.loc main_arg0)) (m (c.tc.loc main_arg1)) (m (c.tc.loc main_arg2)) (m (c.tc.loc main_arg3))) e).symm
  exact (ref57 _ _ _ _ _ _ _ _).symm

/-- Result array 5 of the call after the run is the reference's. -/
theorem final12 (c : Dev nD) : (dats m 0 c).arrAt 12 (cfgs 0).N = val_main_v58 (F := Ideal) (m (c.tc.loc main_arg0)) (m (c.tc.loc main_arg1)) (m (c.tc.loc main_arg2)) (m (c.tc.loc main_arg3)) := by
  refine (dats m 0 c).arrAt_eq_of_covers 12 _ (by decide +kernel) fun t _ y => ?_
  have hb := (grid0.coords t 0).isLt
  have hs := (grid0.coords t 1).isLt
  have g0 : grid0.bound 0 = 16 := rfl
  have g1 : grid0.bound 1 = 8 := rfl
  have y1 : (y 1).val < 8 := (y 1).isLt
  have y2 : (y 2).val < 512 := (y 2).isLt
  have e : ((cfg0.win 12).blk t).view.emb y = ix3 (⟨(grid0.coords t 0).val, by omega⟩ : Fin 16) (⟨(y 1).val, by omega⟩ : Fin 8) (⟨512 * (grid0.coords t 1).val + (y 2).val, by omega⟩ : Fin 4096) := by
    blk_ext [idx t]
  blk_simp
  rw [t12 m c t ⟨(grid0.coords t 0).val, by omega⟩ rfl y ⟨512 * (grid0.coords t 1).val + (y 2).val, by omega⟩ rfl ⟨2560 + (y 1).val, by omega⟩ rfl]
  refine Eq.trans ?_ (congrArg (val_main_v58 (F := Ideal) (m (c.tc.loc main_arg0)) (m (c.tc.loc main_arg1)) (m (c.tc.loc main_arg2)) (m (c.tc.loc main_arg3))) e).symm
  exact (ref58 _ _ _ _ _ _ _).symm

end Cert.InProj
end
-- ==== Proof.InRun.lean ====
/- The input projection's reference runs to the values named operation by operation. -/
module

public import proofs.«01_k».proof.Proof.Gen.Reference2Ideal.Run
public import proofs.«01_k».proof.Proof.Gen.Reference2Ideal.Read
public import Idealize.ShloMosaic.Lib.Claim

@[expose] public section

set_option maxRecDepth 16384

noncomputable section

open Idealize.ShloMosaic Idealize.ShloMosaic.TcCoe Idealize.SL.Sem

namespace Cert.InProj.Ref
open Cert.Reference2Ideal Cert.Reference2Ideal.Read

/-- The reference ends with its six results at the named values of its arguments, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52) = val_main_v52 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v53) = val_main_v53 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v57) = val_main_v57 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (Cert.Reference2Ideal.Value.run (F := Ideal) m ρ) ?_
  intro r hr c
  obtain ⟨h52, h53, h54, h56, h57, h58, h0, h1, h2, h3⟩ := hr c
  exact ⟨h52.trans (val_main_v52_eq _ _ _ _), h53.trans (val_main_v53_eq _ _ _ _), h54.trans (val_main_v54_eq m c),
    h56.trans (val_main_v56_eq m c), h57.trans (val_main_v57_eq _ _ _ _), h58.trans (val_main_v58_eq _ _ _ _), h0, h1, h2, h3⟩

end Cert.InProj.Ref
end
-- ==== Proof.OutProj.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProj
open Cert.Kernel3Ideal Cert.Kernel3Ideal.Gen Cert.Reference3Ideal.Read

variable (m : (ℓ : Loc nD τ sig) → Buf (Elt Ideal) ℓ)

theorem idx : ∀ t : Fin cfg0.N,
    win0_0.index t = ![(grid0.coords t 0).val, (grid0.coords t 1).val, 0]
    ∧ win0_1.index t = ![(grid0.coords t 0).val, 0, (grid0.coords t 1).val, 0]
    ∧ win0_2.index t = ![(grid0.coords t 0).val, (grid0.coords t 1).val, 0]
    ∧ win0_3.index t = ![(grid0.coords t 0).val, 0, 2]
    ∧ win0_4.index t = ![0, 0] ∧ win0_5.index t = ![0, 0] ∧ win0_6.index t = ![0, 0]
    ∧ win0_7.index t = ![(grid0.coords t 0).val, (grid0.coords t 1).val, 0] :=
  (by decide +kernel : ∀ t : Fin grid0.N, _)

/-- What a grid point leaves at an element of its block is the reference's value where that element sits. -/
theorem point (c : Dev nD) (t : Fin cfg0.N) (y : S1x2048x1024.Idx) :
    k0_pay1 (F := Ideal)
      (k0_pay2 (View.ld (iblk m c 1 t) r0_0) (View.ld (iblk m c 1 t) r0_1) (View.ld (iblk m c 1 t) r0_2)
        (View.ld (iblk m c 1 t) r0_3) (iblk m c 0 t) (iblk m c 5 t) (iblk m c 6 t))
      (k0_pay3 (View.ld (iblk m c 1 t) r0_0) (View.ld (iblk m c 1 t) r0_1) (View.ld (iblk m c 1 t) r0_2)
        (View.ld (iblk m c 1 t) r0_3) (iblk m c 0 t) (iblk m c 5 t) (iblk m c 6 t))
      (iblk m c 2 t) (iblk m c 3 t) (iblk m c 4 t) y =
    val_main_v21 (F := Ideal) (m (c.tc.loc main_arg0)) (m (c.tc.loc main_arg1)) (m (c.tc.loc main_arg2))
      (m (c.tc.loc main_arg3)) (m (c.tc.loc main_arg4)) (m (c.tc.loc main_arg5)) (((cfg0.win 7).blk t).view.emb y) := by
  pointwise [k0_pay1, k0_pay2, k0_pay3,
    val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_cst, val_main_cst_0, val_main_cst_1]
  blk_point [iblk, V, idx t]

/-- The result array after the run is the reference's value of the arguments. -/
theorem final (c : Dev nD) : (dats m 0 c).arrAt 7 (cfgs 0).N
    = val_main_v21 (F := Ideal) (m ((c : Thread nD τ).loc main_arg0)) (m ((c : Thread nD τ).loc main_arg1))
       (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point m c t y

end Cert.OutProj
end
-- ==== Proof.RefFrames.lean ====
/- The argument arrays of the four references end as they began, and no counter of theirs is left raised: none of the
   four programs declares a semaphore, so the second half has nothing to check. For the reference with the scan, no
   operation before the loop, in it or after it writes an argument (`keep`). -/
module

public import proofs.«01_k».proof.Defs
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import Idealize.ShloMosaic.Lib.Claim

@[expose] public section

noncomputable section

namespace Cert.RefFrames

open Idealize.ShloMosaic Idealize.SL.Sem Idealize.ShloMosaic.StableHlo

/-- Where the program declares no semaphore, every assignment of counters is the zero one. -/
theorem sem_zero {nD : Nat} {τ : Topo} {sig : RefSig} (h1 : sig.nSem = 0) (h2 : sig.nDmaSem = 0)
    {α : Type} (f : Thread nD τ × SemLoc sig → α) (z : α) : f = fun _ => z := by
  funext ⟨t, s⟩
  cases s with
  | reg s => exact absurd s.isLt (by omega)
  | dma s => exact absurd s.isLt (by omega)

section Loop
open Cert.ReferenceIdeal Cert.ReferenceIdeal.Gen Cert.ReferenceIdeal.Value

variable {F : FTy → Type} [FloatOps F] (m : (ℓ : Loc nD τ sig) → Buf (Elt F) ℓ)

/-- The reference each operation of `hostOps0_8` writes, in order. -/
abbrev hostOps0_8_W : List (Ref sig .tc) := [main_v92, main_v93, main_v94, main_c_10, main_v95]
theorem hostOps0_8_writes : (hostOps0_8 : List (HloOp τ sig (Elt F))).Forall fun op => op.writes ⊆ (hostOps0_8_W.map (Proc.devRef (τ := τ) .tc)).toFinset :=
  StableHlo.forall_writes_sub_of_map rfl

/-- The reference each operation of `hostOps0_9` writes, in order. -/
abbrev hostOps0_9_W : List (Ref sig .tc) := [main_call11_v0, main_call11_c, main_call11_v1, main_call11_v2, main_call11_v3, main_call11_v4, main_call11_c_0, main_call11_v5, main_v96]
theorem hostOps0_9_writes : (hostOps0_9 : List (HloOp τ sig (Elt F))).Forall fun op => op.writes ⊆ (hostOps0_9_W.map (Proc.devRef (τ := τ) .tc)).toFinset :=
  StableHlo.forall_writes_sub_of_map rfl

/-- The reference each operation of `hostOps0_10` writes, in order. -/
abbrev hostOps0_10_W : List (Ref sig .tc) := [main_v97, main_v98, main_v99, main_v100, main_v101, main_v102, main_v103, main_v104, main_cst_11]
theorem hostOps0_10_writes : (hostOps0_10 : List (HloOp τ sig (Elt F))).Forall fun op => op.writes ⊆ (hostOps0_10_W.map (Proc.devRef (τ := τ) .tc)).toFinset :=
  StableHlo.forall_writes_sub_of_map rfl

/-- The reference each operation of `hostOps0_11` writes, in order. -/
abbrev hostOps0_11_W : List (Ref sig .tc) := [main_call12_v0, main_call12_v1, main_call12_v2, main_v105]
theorem hostOps0_11_writes : (hostOps0_11 : List (HloOp τ sig (Elt F))).Forall fun op => op.writes ⊆ (hostOps0_11_W.map (Proc.devRef (τ := τ) .tc)).toFinset :=
  StableHlo.forall_writes_sub_of_map rfl

/-- The reference each operation of `hostOps0_12` writes, in order. -/
abbrev hostOps0_12_W : List (Ref sig .tc) := [main_v106, main_v107, main_v108, main_cst_12, main_v109, main_v110, main_v111, main_v112, main_v113, main_v114, main_v115, main_v116, main_v117, main_v118, main_v119, main_v120, main_v121, main_v122, main_v123, main_v124, main_v125, main_v126, main_cst_13, main_v127, main_v128, main_v129, main_v130, main_v131, main_v132, main_v133, main_v134, main_v135, main_v136, main_v137, main_v138, main_v139, main_v140, main_cst_14, main_v141, main_v142, main_cst_15, main_v143, main_v144, main_v145, main_v146, main_cst_16, main_v147, main_v148, main_cst_17, main_v149, main_v150, main_cst_18, main_v151, main_v152, main_v153, main_v154, main_v155, main_v156, main_v157, main_v158, main_v159]
theorem hostOps0_12_writes : (hostOps0_12 : List (HloOp τ sig (Elt F))).Forall fun op => op.writes ⊆ (hostOps0_12_W.map (Proc.devRef (τ := τ) .tc)).toFinset :=
  StableHlo.forall_writes_sub_of_map rfl

/-- The reference each operation of `hostOps0_13` writes, in order. -/
abbrev hostOps0_13_W : List (Ref sig .tc) := [main_call13_v0, main_call13_v1, main_call13_cst, main_call13_v2, main_call13_v3, main_call13_cst_0, main_call13_v4, main_call13_v5, main_v160]
theorem hostOps0_13_writes : (hostOps0_13 : List (HloOp τ sig (Elt F))).Forall fun op => op.writes ⊆ (hostOps0_13_W.map (Proc.devRef (τ := τ) .tc)).toFinset :=
  StableHlo.forall_writes_sub_of_map rfl

/-- The reference each operation of `hostOps0_14` writes, in order. -/
abbrev hostOps0_14_W : List (Ref sig .tc) := [main_v161, main_v162]
theorem hostOps0_14_writes : (hostOps0_14 : List (HloOp τ sig (Elt F))).Forall fun op => op.writes ⊆ (hostOps0_14_W.map (Proc.devRef (τ := τ) .tc)).toFinset :=
  StableHlo.forall_writes_sub_of_map rfl

/-- The lists of what each stretch writes. -/
abbrev writeLists : List (List (Ref sig .tc)) := [hostOps0_W, hostOps0_1_W, hostOps0_2_W, hostOps0_3_W, hostOps0_4_W, hostOps0_5_W, hostOps0_6_W, hostOps0_7_W, condOps_W, while0Ops0_W, while0Ops0_1_W, while0Ops0_2_W, while0Ops0_3_W, while0Ops0_4_W, while0Ops0_5_W, while0Ops0_6_W, while0Ops0_7_W, while0Ops0_8_W, hostOps0_8_W, hostOps0_9_W, hostOps0_10_W, hostOps0_11_W, hostOps0_12_W, hostOps0_13_W, hostOps0_14_W]

theorem keep_pre (c : Dev nD) (r : Ref sig .tc) (hr : ∀ W ∈ writeLists, r ∉ W) :
    entryContents preI m c (Proc.devRef .tc r) = m ((c.tc : Thread nD τ).loc r) := by
  simp only [entryContents, preI, afterL_cons, afterL_nil]
  rw [after_of_writes_sub hostOps0_7 _ hostOps0_7_writes (hr hostOps0_7_W (by simp)), after_of_writes_sub hostOps0_6 _ hostOps0_6_writes (hr hostOps0_6_W (by simp)), after_of_writes_sub hostOps0_5 _ hostOps0_5_writes (hr hostOps0_5_W (by simp)), after_of_writes_sub hostOps0_4 _ hostOps0_4_writes (hr hostOps0_4_W (by simp)), after_of_writes_sub hostOps0_3 _ hostOps0_3_writes (hr hostOps0_3_W (by simp)), after_of_writes_sub hostOps0_2 _ hostOps0_2_writes (hr hostOps0_2_W (by simp)), after_of_writes_sub hostOps0_1 _ hostOps0_1_writes (hr hostOps0_1_W (by simp)), after_of_writes_sub hostOps0 _ hostOps0_writes (hr hostOps0_W (by simp))]

theorem keep_trip (c : Dev nD) (r : Ref sig .tc) (hr : ∀ W ∈ writeLists, r ∉ W) (k : ℕ) :
    atTrip condOps bodyI (entryContents preI m) k c (Proc.devRef .tc r) = m ((c.tc : Thread nD τ).loc r) := by
  induction k with
  | zero => exact keep_pre m c r hr
  | succ k ih =>
    rw [atTrip_succ]
    simp only [bodyI, afterL_cons, afterL_nil]
    rw [after_of_writes_sub while0Ops0_8 _ while0Ops0_8_writes (hr while0Ops0_8_W (by simp)), after_of_writes_sub while0Ops0_7 _ while0Ops0_7_writes (hr while0Ops0_7_W (by simp)), after_of_writes_sub while0Ops0_6 _ while0Ops0_6_writes (hr while0Ops0_6_W (by simp)), after_of_writes_sub while0Ops0_5 _ while0Ops0_5_writes (hr while0Ops0_5_W (by simp)), after_of_writes_sub while0Ops0_4 _ while0Ops0_4_writes (hr while0Ops0_4_W (by simp)), after_of_writes_sub while0Ops0_3 _ while0Ops0_3_writes (hr while0Ops0_3_W (by simp)), after_of_writes_sub while0Ops0_2 _ while0Ops0_2_writes (hr while0Ops0_2_W (by simp)), after_of_writes_sub while0Ops0_1 _ while0Ops0_1_writes (hr while0Ops0_1_W (by simp)), after_of_writes_sub while0Ops0 _ while0Ops0_writes (hr while0Ops0_W (by simp)), after_of_writes_sub condOps _ condOps_writes (hr condOps_W (by simp))]
    exact ih

theorem keep (c : Dev nD) (r : Ref sig .tc) (hr : ∀ W ∈ writeLists, r ∉ W) (n : ℕ) :
    finalContents condOps preI bodyI postI n m c (Proc.devRef .tc r) = m ((c.tc : Thread nD τ).loc r) := by
  simp only [finalContents, postI, afterL_cons, afterL_nil]
  rw [after_of_writes_sub hostOps0_14 _ hostOps0_14_writes (hr hostOps0_14_W (by simp)), after_of_writes_sub hostOps0_13 _ hostOps0_13_writes (hr hostOps0_13_W (by simp)), after_of_writes_sub hostOps0_12 _ hostOps0_12_writes (hr hostOps0_12_W (by simp)), after_of_writes_sub hostOps0_11 _ hostOps0_11_writes (hr hostOps0_11_W (by simp)), after_of_writes_sub hostOps0_10 _ hostOps0_10_writes (hr hostOps0_10_W (by simp)), after_of_writes_sub hostOps0_9 _ hostOps0_9_writes (hr hostOps0_9_W (by simp)), after_of_writes_sub hostOps0_8 _ hostOps0_8_writes (hr hostOps0_8_W (by simp)), after_of_writes_sub condOps _ condOps_writes (hr condOps_W (by simp))]
  exact keep_trip m c r hr n

theorem frame1 : Cert.quiescent_ReferenceIdeal := fun m g _ =>
  θ_run_mono (run_fold m g) fun r h =>
    ⟨fun c => ⟨(h c main_arg0 rfl).trans (keep m c _ (by decide +kernel) 64), (h c main_arg1 rfl).trans (keep m c _ (by decide +kernel) 64), (h c main_arg2 rfl).trans (keep m c _ (by decide +kernel) 64), (h c main_arg3 rfl).trans (keep m c _ (by decide +kernel) 64), (h c main_arg4 rfl).trans (keep m c _ (by decide +kernel) 64), (h c main_arg5 rfl).trans (keep m c _ (by decide +kernel) 64), (h c main_arg6 rfl).trans (keep m c _ (by decide +kernel) 64)⟩, sem_zero rfl rfl _ _⟩

end Loop

theorem frame2 : Cert.quiescent_Reference2Ideal := fun m g _ =>
  θ_run_mono (Cert.Reference2Ideal.Value.run m g) fun r h => ⟨fun c => (h c).2.2.2.2.2.2, sem_zero rfl rfl _ _⟩

theorem frame3 : Cert.quiescent_Reference3Ideal := fun m g _ =>
  θ_run_mono (Cert.Reference3Ideal.Value.run m g) fun r h => ⟨fun c => (h c).2, sem_zero rfl rfl _ _⟩

theorem frame4 : Cert.quiescent_Reference4Ideal := fun m g _ =>
  θ_run_mono (Cert.Reference4Ideal.Value.run m g) fun r h => ⟨fun c => (h c).2, sem_zero rfl rfl _ _⟩

end Cert.RefFrames

end
-- ==== Proof.SbSafe.lean ====
/-
  Programs that keep a resource: `Safe H p` says that `p`, started holding `H`, runs to an end at which `H` is held again,
  whatever it returns. It is what a frame needs of a kernel body, of whose memory contents nothing is said: `H` owns the
  body's buffers at some contents. The rules below are one for each kind of statement such a body is made of.
-/
module

public import Idealize.ShloMosaic.Lib.Pipeline.Kit
public import Idealize.ShloMosaic.Lib.Pipeline.FrameBody
public import Idealize.ShloMosaic.Lib.Tactic

@[expose] public section

noncomputable section

namespace Cert.SbSafe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {U : Type} [URA U] {Λ : Labels}

/-- A buffer owned whole, at some contents. -/
def own (c : Thread nD τ) {sp : Space} {sh : Shape} {e : EltTy} (M : Memref sig c.2.kind sp sh e) : sProp (MT nD τ sig Unit Val ℕ U ℕ) :=
  iprop(∃ X, owns c M fullShare X)

/-- `H` holds `P`, and holds again once it is given back. -/
def Has (H P : sProp (MT nD τ sig Unit Val ℕ U ℕ)) : Prop := H ⊢ iprop(P ∗ (P -∗ H))

/-- The program keeps `H`, entered below the bound `bd`. -/
def Safe (defs : Defs nD τ sig Val Λ) (𝒱 : Variants) (c : Thread nD τ) (H : sProp (MT nD τ sig Unit Val ℕ U ℕ)) (bd : Option 𝒱.V) {α : Type} (p : Prog (TpuEff nD τ sig Val Λ c.2) α) : Prop :=
  ∀ K : α → sProp (MT nD τ sig Unit Val ℕ U ℕ), iprop(H ∗ (∀ r, H -∗ K r)) ⊢ wp frame (wpE defs 𝒱 c bd) Set.univ p K

variable {defs : Defs nD τ sig Val Λ} {𝒱 : Variants} {c : Thread nD τ} {H : sProp (MT nD τ sig Unit Val ℕ U ℕ)}
  {bd : Option 𝒱.V} {α β : Type}

theorem Safe.ret (a : α) : Safe defs 𝒱 c H bd (pure a : Prog (TpuEff nD τ sig Val Λ c.2) α) := by
  intro K
  rw [Prog.pure_eq_ret, wp_ret]
  iintro ⟨HH, Hk⟩
  imodintro
  iapply Hk
  iexact HH

theorem Safe.bind {p : Prog (TpuEff nD τ sig Val Λ c.2) α} {k : α → Prog (TpuEff nD τ sig Val Λ c.2) β}
    (hp : Safe defs 𝒱 c H bd p) (hk : ∀ a, Safe defs 𝒱 c H bd (k a)) : Safe defs 𝒱 c H bd (p >>= k) := by
  intro K
  rw [wp_bind]
  iintro ⟨HH, Hk⟩
  iapply (hp _)
  isplitl [HH]; · iexact HH
  iintro %r HH
  iapply (hk r K)
  isplitl [HH]; · iexact HH
  iexact Hk

theorem Safe.load {cs : CoreSpace} {s : Shape} {e : EltTy} {M : Memref sig c.2.kind cs s e} (hM : Has H (own c M))
    (r : LoadRect s) (hl : M.view.LoadsAt r) : Safe defs 𝒱 c H bd (Prog.lift (.load M r hl)) := by
  intro K
  unfold Has at hM
  iintro ⟨HH, Hk⟩
  ihave HH := hM $$ HH
  unfold own owns
  icases HH with ⟨⟨%X, %f, %hf, HM⟩, Hback⟩
  simp only [Prog.lift]
  iapply (wp_load 𝒱 c bd Set.univ (m := M) (M.view.setOn_subset_set _)) $$ HM
  iintro HM
  rw [wp_ret]; imodintro
  iapply Hk
  iapply Hback
  iexists X; iexists f
  isplitr; · ipureintro; exact hf
  iexact HM

theorem Safe.store {cs : CoreSpace} {s : Shape} {e : EltTy} {M : Memref sig c.2.kind cs s e} (hM : Has H (own c M))
    (r : Rect s) (w : r.shape.Idx → Val e) (Mk : Finset r.shape.Idx) (hx : (M.access r).Stores Mk)
    (hm : Mk = Finset.univ ∨ ∀ a, r.stride a = 1) :
    Safe defs 𝒱 c H bd (Prog.lift (.store M r w Mk hx hm)) := by
  intro K
  unfold Has at hM
  iintro ⟨HH, Hk⟩
  ihave HH := hM $$ HH
  unfold own owns
  icases HH with ⟨⟨%X, %f, %hf, HM⟩, Hback⟩
  simp only [Prog.lift]
  iapply (wp_store 𝒱 c bd Set.univ (m := M) (r := r) (Mk := Mk) (S := M.view.set)
    (((M.access r).setOn_subset_set _).trans (M.view.set_slice_subset r))) $$ HM
  iintro HM
  rw [wp_ret]; imodintro
  iapply Hk
  iapply Hback
  iexists _; iexists _
  isplitr; swap; · iexact HM
  ipureintro; rfl

theorem Safe.assume {P : Prop} {d : Decidable P} (h : P) : Safe defs 𝒱 c H bd (Prog.lift (TpuEff.assume P d)) := by
  intro K
  iintro ⟨HH, Hk⟩
  simp only [Prog.lift]
  iapply (wp_assume 𝒱 c bd Set.univ h)
  rw [wp_ret]; imodintro
  iapply Hk
  iexact HH

/-- A called label: its body keeps `H` entered at a variant below the caller's bound. -/
theorem Safe.call {ℓ : Λ.Label} {a : Λ.Args ℓ} (v : 𝒱.V) (hv : ∀ u ∈ bd, 𝒱.lt v u)
    (h : Safe defs 𝒱 c H (some v) (defs c.2 ℓ a)) : Safe defs 𝒱 c H bd (Prog.lift (.call ℓ a)) := by
  intro K
  simp only [Prog.lift]
  refine .trans ?_ (wp_call_spec 𝒱 c bd Set.univ (wp frame (wpE defs 𝒱 c (some v)) Set.univ (defs c.2 ℓ a)) v hv
    (fun _ => Entails.refl _))
  iintro ⟨HH, Hk⟩
  iapply (h _)
  isplitl [HH]; · iexact HH
  iintro %r HH
  rw [wp_ret]; imodintro
  iapply Hk
  iexact HH

/-- The program keeps `H` and what it returns has the property `Q`. -/
def SafeQ (defs : Defs nD τ sig Val Λ) (𝒱 : Variants) (c : Thread nD τ) (H : sProp (MT nD τ sig Unit Val ℕ U ℕ)) (bd : Option 𝒱.V) {α : Type} (Q : α → Prop) (p : Prog (TpuEff nD τ sig Val Λ c.2) α) : Prop :=
  ∀ K : α → sProp (MT nD τ sig Unit Val ℕ U ℕ), iprop(H ∗ (∀ r, ⌜Q r⌝ -∗ H -∗ K r)) ⊢ wp frame (wpE defs 𝒱 c bd) Set.univ p K

theorem SafeQ.ret {Q : α → Prop} (a : α) (h : Q a) : SafeQ defs 𝒱 c H bd Q (pure a : Prog (TpuEff nD τ sig Val Λ c.2) α) := by
  intro K
  rw [Prog.pure_eq_ret, wp_ret]
  iintro ⟨HH, Hk⟩
  imodintro
  iapply Hk $$ [] HH
  ipureintro; exact h

theorem SafeQ.bind {Q : β → Prop} {p : Prog (TpuEff nD τ sig Val Λ c.2) α} {k : α → Prog (TpuEff nD τ sig Val Λ c.2) β}
    (hp : Safe defs 𝒱 c H bd p) (hk : ∀ a, SafeQ defs 𝒱 c H bd Q (k a)) : SafeQ defs 𝒱 c H bd Q (p >>= k) := by
  intro K
  rw [wp_bind]
  iintro ⟨HH, Hk⟩
  iapply (hp _)
  isplitl [HH]; · iexact HH
  iintro %r HH
  iapply (hk r K)
  isplitl [HH]; · iexact HH
  iexact Hk

/-- What follows may use the property of what was returned. -/
theorem Safe.bindQ {Q : α → Prop} {p : Prog (TpuEff nD τ sig Val Λ c.2) α} {k : α → Prog (TpuEff nD τ sig Val Λ c.2) β}
    (hp : SafeQ defs 𝒱 c H bd Q p) (hk : ∀ a, Q a → Safe defs 𝒱 c H bd (k a)) : Safe defs 𝒱 c H bd (p >>= k) := by
  intro K
  rw [wp_bind]
  iintro ⟨HH, Hk⟩
  iapply (hp _)
  isplitl [HH]; · iexact HH
  iintro %r %hr HH
  iapply (hk r hr K)
  isplitl [HH]; · iexact HH
  iexact Hk

end Cert.SbSafe

end
-- ==== Proof.SbPartsIdeal.lean ====
/-
  The stick-breaking call's body keeps its buffers: `Held` says that a resource holds each of the twelve buffers the body
  is called with, and each part of the body (the printed one, by its skeleton) is `Safe` for such a resource. The part that
  calls the loop takes what it needs of the loop as a hypothesis.
-/
module

public import proofs.«01_k».proof.Proof.SbSafe
public import proofs.«01_k».proof.Proof.Gen.Kernel5Ideal.Skeleton

@[expose] public section

noncomputable section

namespace Cert.SbFrameIdeal

open Cert.Kernel5Ideal Cert.Kernel5Ideal.Gen Cert.SbSafe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A resource holding the body's buffers, each at some contents. -/
structure Held (c : Dev nD) (H : sProp (MT nD τ sig Unit (Elt F) ℕ (UR sig nD τ) ℕ))

    (arg2 : Memref sig .tc .vmem S1x4x256x128 .bf16)
    (arg3 : Memref sig .tc .vmem S1x4x32x128x256 .bf16)
    (arg4 : Memref sig .tc .vmem S1x4x8192x128 .bf16)
    (arg5 : Memref sig .tc .vmem S1x4x256x128 .bf16)
    (arg6 : Memref sig .tc .vmem S256x384 .bf16)
    (arg7 : Memref sig .tc .vmem S1x4x256x128 .bf16)
    (arg8 : Memref sig .tc .vmem S24x128x256 .f32)
    (arg9 : Memref sig .tc .vmem S3072x256 .bf16)
    (arg10 : Memref sig .tc .vmem S24x128x256 .bf16)
    (arg11 : Memref sig .tc .vmem S24x128x128 .f32)
    (arg12 : Memref sig .tc .vmem S8x128x128 .f32)
    (arg13 : Memref sig .tc .vmem S8x128x128 .f32)
    : Prop where
  a2 : Has H (own (c : Thread nD τ) arg2)
  a3 : Has H (own (c : Thread nD τ) arg3)
  a4 : Has H (own (c : Thread nD τ) arg4)
  a5 : Has H (own (c : Thread nD τ) arg5)
  a6 : Has H (own (c : Thread nD τ) arg6)
  a7 : Has H (own (c : Thread nD τ) arg7)
  a8 : Has H (own (c : Thread nD τ) arg8)
  a9 : Has H (own (c : Thread nD τ) arg9)
  a10 : Has H (own (c : Thread nD τ) arg10)
  a11 : Has H (own (c : Thread nD τ) arg11)
  a12 : Has H (own (c : Thread nD τ) arg12)
  a13 : Has H (own (c : Thread nD τ) arg13)

variable {c : Dev nD} {H : sProp (MT nD τ sig Unit (Elt F) ℕ (UR sig nD τ) ℕ)} {bd : Option Variants.nat.V} (i : grid0.Coords)
  (arg2 : Memref sig .tc .vmem S1x4x256x128 .bf16) (harg2 : arg2.IsWhole)
  (arg3 : Memref sig .tc .vmem S1x4x32x128x256 .bf16) (harg3 : arg3.IsWhole)
  (arg4 : Memref sig .tc .vmem S1x4x8192x128 .bf16) (harg4 : arg4.IsWhole)
  (arg5 : Memref sig .tc .vmem S1x4x256x128 .bf16) (harg5 : arg5.IsWhole)
  (arg6 : Memref sig .tc .vmem S256x384 .bf16) (harg6 : arg6.IsWhole)
  (arg7 : Memref sig .tc .vmem S1x4x256x128 .bf16) (harg7 : arg7.IsWhole)
  (arg8 : Memref sig .tc .vmem S24x128x256 .f32) (harg8 : arg8.IsWhole)
  (arg9 : Memref sig .tc .vmem S3072x256 .bf16) (harg9 : arg9.IsWhole)
  (arg10 : Memref sig .tc .vmem S24x128x256 .bf16) (harg10 : arg10.IsWhole)
  (arg11 : Memref sig .tc .vmem S24x128x128 .f32) (harg11 : arg11.IsWhole)
  (arg12 : Memref sig .tc .vmem S8x128x128 .f32) (harg12 : arg12.IsWhole)
  (arg13 : Memref sig .tc .vmem S8x128x128 .f32) (harg13 : arg13.IsWhole)
  (hA : Held c H arg2 arg3 arg4 arg5 arg6 arg7 arg8 arg9 arg10 arg11 arg12 arg13)

/-- Safe at the body's table of labels. -/
abbrev Ok (c : Dev nD) (H : sProp (MT nD τ sig Unit (Elt F) ℕ (UR sig nD τ) ℕ)) (bd : Option Variants.nat.V) {α : Type} (p : Prog (TpuEff nD τ sig (Elt F) (Λ₀ F) .tc) α) : Prop :=
  Safe (defs₀ (F := F)) Variants.nat (c : Thread nD τ) H bd p

include hA

theorem part1  :
    Ok c H bd (k0_part1 (F := F) i arg2 harg2 arg3 harg3 arg4 harg4 arg5 harg5 arg6 harg6 arg7 harg7 arg8 harg8 arg9 harg9 arg10 harg10 arg11 harg11 arg12 harg12 arg13 harg13) := by
  rw [k0_part1_eq_skeleton]; unfold k0_part1_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part2 (v0 : BitVec 32) (v5 : IVec S128x256 1) :
    Ok c H bd (k0_part2 (F := F) i arg2 harg2 arg3 harg3 arg4 harg4 arg5 harg5 arg6 harg6 arg7 harg7 arg8 harg8 arg9 harg9 arg10 harg10 arg11 harg11 arg12 harg12 arg13 harg13 v0 v5) := by
  rw [k0_part2_eq_skeleton]; unfold k0_part2_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part3 (v0 : BitVec 32) (v5 : IVec S128x256 1) (v59 : FVec F S128x128 .bf16) (v62 : BitVec 32) :
    Ok c H bd (k0_part3 (F := F) i arg2 harg2 arg3 harg3 arg4 harg4 arg5 harg5 arg6 harg6 arg7 harg7 arg8 harg8 arg9 harg9 arg10 harg10 arg11 harg11 arg12 harg12 arg13 harg13 v0 v5 v59 v62) := by
  rw [k0_part3_eq_skeleton]; unfold k0_part3_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part4 (v0 : BitVec 32) (v5 : IVec S128x256 1) (v92 : FVec F S128x256 .f32) (v93 : FVec F S128x256 .f32) :
    Ok c H bd (k0_part4 (F := F) i arg2 harg2 arg3 harg3 arg4 harg4 arg5 harg5 arg6 harg6 arg7 harg7 arg8 harg8 arg9 harg9 arg10 harg10 arg11 harg11 arg12 harg12 arg13 harg13 v0 v5 v92 v93) := by
  rw [k0_part4_eq_skeleton]; unfold k0_part4_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part5 (v0 : BitVec 32) (v5 : IVec S128x256 1) (v118 : FVec F S128x256 .f32) (v126 : FVec F S128x256 .f32) (v127 : FVec F S128x256 .f32) :
    Ok c H bd (k0_part5 (F := F) i arg2 harg2 arg3 harg3 arg4 harg4 arg5 harg5 arg6 harg6 arg7 harg7 arg8 harg8 arg9 harg9 arg10 harg10 arg11 harg11 arg12 harg12 arg13 harg13 v0 v5 v118 v126 v127) := by
  rw [k0_part5_eq_skeleton]; unfold k0_part5_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part6 (v0 : BitVec 32) (v5 : IVec S128x256 1) (v158 : FVec F S128x256 .bf16) :
    Ok c H bd (k0_part6 (F := F) i arg2 harg2 arg3 harg3 arg4 harg4 arg5 harg5 arg6 harg6 arg7 harg7 arg8 harg8 arg9 harg9 arg10 harg10 arg11 harg11 arg12 harg12 arg13 harg13 v0 v5 v158) := by
  rw [k0_part6_eq_skeleton]; unfold k0_part6_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part7 (v0 : BitVec 32) (v5 : IVec S128x256 1) (v189 : FVec F S128x128 .bf16) (c1_i32_135 : BitVec 32) :
    Ok c H bd (k0_part7 (F := F) i arg2 harg2 arg3 harg3 arg4 harg4 arg5 harg5 arg6 harg6 arg7 harg7 arg8 harg8 arg9 harg9 arg10 harg10 arg11 harg11 arg12 harg12 arg13 harg13 v0 v5 v189 c1_i32_135) := by
  rw [k0_part7_eq_skeleton]; unfold k0_part7_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part8 (v0 : BitVec 32) (v215 : FVec F S128x128 .bf16) (v220 : Vec F S1x1x1x128x256 .bf16) :
    Ok c H bd (k0_part8 (F := F) i arg2 harg2 arg3 harg3 arg4 harg4 arg5 harg5 arg6 harg6 arg7 harg7 arg8 harg8 arg9 harg9 arg10 harg10 arg11 harg11 arg12 harg12 arg13 harg13 v0 v215 v220) := by
  rw [k0_part8_eq_skeleton]; unfold k0_part8_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part9 (v0 : BitVec 32) (v246 : FVec F S128x256 .f32) (v254 : FVec F S128x256 .f32) :
    Ok c H bd (k0_part9 (F := F) i arg2 harg2 arg3 harg3 arg4 harg4 arg5 harg5 arg6 harg6 arg7 harg7 arg8 harg8 arg9 harg9 arg10 harg10 arg11 harg11 arg12 harg12 arg13 harg13 v0 v246 v254) := by
  rw [k0_part9_eq_skeleton]; unfold k0_part9_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part10 (v0 : BitVec 32) :
    Ok c H bd (k0_part10 (F := F) i arg2 harg2 arg3 harg3 arg4 harg4 arg5 harg5 arg6 harg6 arg7 harg7 arg8 harg8 arg9 harg9 arg10 harg10 arg11 harg11 arg12 harg12 arg13 harg13 v0) := by
  rw [k0_part10_eq_skeleton]; unfold k0_part10_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part11 (v0 : BitVec 32) (v311 : FVec F S128x128 .bf16) (v314 : BitVec 32) :
    Ok c H bd (k0_part11 (F := F) i arg2 harg2 arg3 harg3 arg4 harg4 arg5 harg5 arg6 harg6 arg7 harg7 arg8 harg8 arg9 harg9 arg10 harg10 arg11 harg11 arg12 harg12 arg13 harg13 v0 v311 v314) := by
  rw [k0_part11_eq_skeleton]; unfold k0_part11_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part12 (v0 : BitVec 32) (v342 : FVec F S128x256 .f32) (v347 : FVec F S128x256 .f32) :
    Ok c H bd (k0_part12 (F := F) i arg2 harg2 arg3 harg3 arg4 harg4 arg5 harg5 arg6 harg6 arg7 harg7 arg8 harg8 arg9 harg9 arg10 harg10 arg11 harg11 arg12 harg12 arg13 harg13 v0 v342 v347) := by
  rw [k0_part12_eq_skeleton]; unfold k0_part12_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part13 (v0 : BitVec 32) (v378 : FVec F S128x256 .bf16) :
    Ok c H bd (k0_part13 (F := F) i arg2 harg2 arg3 harg3 arg4 harg4 arg5 harg5 arg6 harg6 arg7 harg7 arg8 harg8 arg9 harg9 arg10 harg10 arg11 harg11 arg12 harg12 arg13 harg13 v0 v378) := by
  rw [k0_part13_eq_skeleton]; unfold k0_part13_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part14 (v0 : BitVec 32) (v407 : FVec F S128x128 .bf16) (v409 : BitVec 32) :
    Ok c H bd (k0_part14 (F := F) i arg2 harg2 arg3 harg3 arg4 harg4 arg5 harg5 arg6 harg6 arg7 harg7 arg8 harg8 arg9 harg9 arg10 harg10 arg11 harg11 arg12 harg12 arg13 harg13 v0 v407 v409) := by
  rw [k0_part14_eq_skeleton]; unfold k0_part14_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part15 (v0 : BitVec 32) (v438 : FVec F S128x256 .f32) (v440 : FVec F S128x256 .f32) :
    Ok c H bd (k0_part15 (F := F) i arg2 harg2 arg3 harg3 arg4 harg4 arg5 harg5 arg6 harg6 arg7 harg7 arg8 harg8 arg9 harg9 arg10 harg10 arg11 harg11 arg12 harg12 arg13 harg13 v0 v438 v440) := by
  rw [k0_part15_eq_skeleton]; unfold k0_part15_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part16 (v0 : BitVec 32) (v470 : FVec F S128x256 .f32) (v473 : FVec F S1x128x256 .f32) :
    Ok c H bd (k0_part16 (F := F) i arg2 harg2 arg3 harg3 arg4 harg4 arg5 harg5 arg6 harg6 arg7 harg7 arg8 harg8 arg9 harg9 arg10 harg10 arg11 harg11 arg12 harg12 arg13 harg13 v0 v470 v473) := by
  rw [k0_part16_eq_skeleton]; unfold k0_part16_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part17 (v0 : BitVec 32) (v503 : FVec F S128x128 .bf16) :
    Ok c H bd (k0_part17 (F := F) i arg2 harg2 arg3 harg3 arg4 harg4 arg5 harg5 arg6 harg6 arg7 harg7 arg8 harg8 arg9 harg9 arg10 harg10 arg11 harg11 arg12 harg12 arg13 harg13 v0 v503) := by
  rw [k0_part17_eq_skeleton]; unfold k0_part17_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part18 (v0 : BitVec 32) (v527 : FVec F S128x128 .bf16) (v533 : FVec F S128x256 .bf16) (cst_395 : FVec F S128x256 .f32) :
    Ok c H bd (k0_part18 (F := F) i arg2 harg2 arg3 harg3 arg4 harg4 arg5 harg5 arg6 harg6 arg7 harg7 arg8 harg8 arg9 harg9 arg10 harg10 arg11 harg11 arg12 harg12 arg13 harg13 v0 v527 v533 cst_395) := by
  rw [k0_part18_eq_skeleton]; unfold k0_part18_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part19 (v0 : BitVec 32) (v558 : FVec F S128x256 .f32) (v566 : FVec F S128x256 .f32) :
    Ok c H bd (k0_part19 (F := F) i arg2 harg2 arg3 harg3 arg4 harg4 arg5 harg5 arg6 harg6 arg7 harg7 arg8 harg8 arg9 harg9 arg10 harg10 arg11 harg11 arg12 harg12 arg13 harg13 v0 v558 v566) := by
  rw [k0_part19_eq_skeleton]; unfold k0_part19_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part20 (v5 : IVec S128x256 1) :
    Ok c H bd (k0_part20 (F := F) i arg2 harg2 arg3 harg3 arg4 harg4 arg5 harg5 arg6 harg6 arg7 harg7 arg8 harg8 arg9 harg9 arg10 harg10 arg11 harg11 arg12 harg12 arg13 harg13 v5) := by
  rw [k0_part20_eq_skeleton]; unfold k0_part20_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part21 (v5 : IVec S128x256 1) (v601 : FVec F S3072x384 .f32) (v631 : FVec F S1x128x128 .f32) :
    Ok c H bd (k0_part21 (F := F) i arg2 harg2 arg3 harg3 arg4 harg4 arg5 harg5 arg6 harg6 arg7 harg7 arg8 harg8 arg9 harg9 arg10 harg10 arg11 harg11 arg12 harg12 arg13 harg13 v5 v601 v631) := by
  rw [k0_part21_eq_skeleton]; unfold k0_part21_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part22 (v5 : IVec S128x256 1) (v601 : FVec F S3072x384 .f32) (v662 : FVec F S128x256 .f32) (v663 : Vec F S1x128x256 .f32) :
    Ok c H bd (k0_part22 (F := F) i arg2 harg2 arg3 harg3 arg4 harg4 arg5 harg5 arg6 harg6 arg7 harg7 arg8 harg8 arg9 harg9 arg10 harg10 arg11 harg11 arg12 harg12 arg13 harg13 v5 v601 v662 v663) := by
  rw [k0_part22_eq_skeleton]; unfold k0_part22_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part23 (v5 : IVec S128x256 1) (v601 : FVec F S3072x384 .f32) (v698 : FVec F S128x256 .f32) :
    Ok c H bd (k0_part23 (F := F) i arg2 harg2 arg3 harg3 arg4 harg4 arg5 harg5 arg6 harg6 arg7 harg7 arg8 harg8 arg9 harg9 arg10 harg10 arg11 harg11 arg12 harg12 arg13 harg13 v5 v601 v698) := by
  rw [k0_part23_eq_skeleton]; unfold k0_part23_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part24 (v601 : FVec F S3072x384 .f32) (v731 : FVec F S128x128 .f32) :
    Ok c H bd (k0_part24 (F := F) i arg2 harg2 arg3 harg3 arg4 harg4 arg5 harg5 arg6 harg6 arg7 harg7 arg8 harg8 arg9 harg9 arg10 harg10 arg11 harg11 arg12 harg12 arg13 harg13 v601 v731) := by
  rw [k0_part24_eq_skeleton]; unfold k0_part24_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part25 (v601 : FVec F S3072x384 .f32) (v761 : FVec F S128x256 .f32) (v762 : Vec F S1x128x256 .f32) :
    Ok c H bd (k0_part25 (F := F) i arg2 harg2 arg3 harg3 arg4 harg4 arg5 harg5 arg6 harg6 arg7 harg7 arg8 harg8 arg9 harg9 arg10 harg10 arg11 harg11 arg12 harg12 arg13 harg13 v601 v761 v762) := by
  rw [k0_part25_eq_skeleton]; unfold k0_part25_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part26 (v601 : FVec F S3072x384 .f32) (v796 : FVec F S128x128 .f32) :
    Ok c H bd (k0_part26 (F := F) i arg2 harg2 arg3 harg3 arg4 harg4 arg5 harg5 arg6 harg6 arg7 harg7 arg8 harg8 arg9 harg9 arg10 harg10 arg11 harg11 arg12 harg12 arg13 harg13 v601 v796) := by
  rw [k0_part26_eq_skeleton]; unfold k0_part26_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part27 (v601 : FVec F S3072x384 .f32) (v826 : FVec F S128x256 .f32) (v827 : Vec F S1x128x256 .f32) :
    Ok c H bd (k0_part27 (F := F) i arg2 harg2 arg3 harg3 arg4 harg4 arg5 harg5 arg6 harg6 arg7 harg7 arg8 harg8 arg9 harg9 arg10 harg10 arg11 harg11 arg12 harg12 arg13 harg13 v601 v826 v827) := by
  rw [k0_part27_eq_skeleton]; unfold k0_part27_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part28 (v601 : FVec F S3072x384 .f32) (v861 : FVec F S128x128 .f32) :
    Ok c H bd (k0_part28 (F := F) i arg2 harg2 arg3 harg3 arg4 harg4 arg5 harg5 arg6 harg6 arg7 harg7 arg8 harg8 arg9 harg9 arg10 harg10 arg11 harg11 arg12 harg12 arg13 harg13 v601 v861) := by
  rw [k0_part28_eq_skeleton]; unfold k0_part28_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part29 (v601 : FVec F S3072x384 .f32) (v891 : FVec F S128x256 .f32) (v892 : Vec F S1x128x256 .f32) :
    Ok c H bd (k0_part29 (F := F) i arg2 harg2 arg3 harg3 arg4 harg4 arg5 harg5 arg6 harg6 arg7 harg7 arg8 harg8 arg9 harg9 arg10 harg10 arg11 harg11 arg12 harg12 arg13 harg13 v601 v891 v892) := by
  rw [k0_part29_eq_skeleton]; unfold k0_part29_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part30 (v0 : BitVec 32) (v926 : FVec F S128x128 .f32) :
    Ok c H bd (k0_part30 (F := F) i arg2 harg2 arg3 harg3 arg4 harg4 arg5 harg5 arg6 harg6 arg7 harg7 arg8 harg8 arg9 harg9 arg10 harg10 arg11 harg11 arg12 harg12 arg13 harg13 v0 v926) := by
  rw [k0_part30_eq_skeleton]; unfold k0_part30_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part31 (v0 : BitVec 32) (v939 : FVec F S128x128 .f32) (v941 : FVec F S128x128 .f32) (v951 : FVec F S128x128 .f32) (v954 : BitVec 1) :
    Ok c H bd (k0_part31 (F := F) i arg2 harg2 arg3 harg3 arg4 harg4 arg5 harg5 arg6 harg6 arg7 harg7 arg8 harg8 arg9 harg9 arg10 harg10 arg11 harg11 arg12 harg12 arg13 harg13 v0 v939 v941 v951 v954) := by
  rw [k0_part31_eq_skeleton]; unfold k0_part31_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part32 (v0 : BitVec 32) (v984 : FVec F S128x128 .f32) (v987 : FVec F S128x128 .f32) :
    Ok c H bd (k0_part32 (F := F) i arg2 harg2 arg3 harg3 arg4 harg4 arg5 harg5 arg6 harg6 arg7 harg7 arg8 harg8 arg9 harg9 arg10 harg10 arg11 harg11 arg12 harg12 arg13 harg13 v0 v984 v987) := by
  rw [k0_part32_eq_skeleton]; unfold k0_part32_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part33 (v0 : BitVec 32) (v1003 : FVec F S128x128 .f32) (v1005 : FVec F S128x128 .f32) (v1015 : FVec F S128x128 .f32) (v1016 : BitVec 32) :
    Ok c H bd (k0_part33 (F := F) i arg2 harg2 arg3 harg3 arg4 harg4 arg5 harg5 arg6 harg6 arg7 harg7 arg8 harg8 arg9 harg9 arg10 harg10 arg11 harg11 arg12 harg12 arg13 harg13 v0 v1003 v1005 v1015 v1016) := by
  rw [k0_part33_eq_skeleton]; unfold k0_part33_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part34 (v0 : BitVec 32) (v987 : FVec F S128x128 .f32) (v1043 : FVec F S128x128 .f32) (v1048 : FVec F S128x128 .f32) (v1050 : FVec F S128x128 .f32) :
    Ok c H bd (k0_part34 (F := F) i arg2 harg2 arg3 harg3 arg4 harg4 arg5 harg5 arg6 harg6 arg7 harg7 arg8 harg8 arg9 harg9 arg10 harg10 arg11 harg11 arg12 harg12 arg13 harg13 v0 v987 v1043 v1048 v1050) := by
  rw [k0_part34_eq_skeleton]; unfold k0_part34_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part35 (v0 : BitVec 32) (v1068 : FVec F S128x128 .f32) (v1070 : FVec F S128x128 .f32) (v1072 : FVec F S128x256 .bf16) (v1078 : Vec F S1x1x256x128 .bf16) :
    Ok c H bd (k0_part35 (F := F) i arg2 harg2 arg3 harg3 arg4 harg4 arg5 harg5 arg6 harg6 arg7 harg7 arg8 harg8 arg9 harg9 arg10 harg10 arg11 harg11 arg12 harg12 arg13 harg13 v0 v1068 v1070 v1072 v1078) := by
  rw [k0_part35_eq_skeleton]; unfold k0_part35_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part36 (v0 : BitVec 32) (v1058 : FVec F S128x128 .f32) (v1108 : FVec F S128x128 .f32) (v1113 : FVec F S128x128 .f32) :
    Ok c H bd (k0_part36 (F := F) i arg2 harg2 arg3 harg3 arg4 harg4 arg5 harg5 arg6 harg6 arg7 harg7 arg8 harg8 arg9 harg9 arg10 harg10 arg11 harg11 arg12 harg12 arg13 harg13 v0 v1058 v1108 v1113) := by
  rw [k0_part36_eq_skeleton]; unfold k0_part36_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part37 (v0 : BitVec 32) (v1133 : FVec F S128x128 .f32) (v1135 : FVec F S128x128 .f32) (v1137 : FVec F S128x256 .bf16) (v1141 : BitVec 32) :
    Ok c H bd (k0_part37 (F := F) i arg2 harg2 arg3 harg3 arg4 harg4 arg5 harg5 arg6 harg6 arg7 harg7 arg8 harg8 arg9 harg9 arg10 harg10 arg11 harg11 arg12 harg12 arg13 harg13 v0 v1133 v1135 v1137 v1141) := by
  rw [k0_part37_eq_skeleton]; unfold k0_part37_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part38 (v0 : BitVec 32) (v1123 : FVec F S128x128 .f32) (v1155 : FVec F S128x128 .f32) (v1168 : FVec F S128x128 .f32) (v1173 : FVec F S128x128 .f32) (cst_888 : F .f32) :
    Ok c H bd (k0_part38 (F := F) i arg2 harg2 arg3 harg3 arg4 harg4 arg5 harg5 arg6 harg6 arg7 harg7 arg8 harg8 arg9 harg9 arg10 harg10 arg11 harg11 arg12 harg12 arg13 harg13 v0 v1123 v1155 v1168 v1173 cst_888) := by
  rw [k0_part38_eq_skeleton]; unfold k0_part38_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part39 (v0 : BitVec 32) (v1198 : FVec F S128x128 .f32) (v1200 : FVec F S128x128 .f32) (v1202 : FVec F S128x256 .bf16) (v1203 : BitVec 32) (c1_i32_916 : BitVec 32) :
    Ok c H bd (k0_part39 (F := F) i arg2 harg2 arg3 harg3 arg4 harg4 arg5 harg5 arg6 harg6 arg7 harg7 arg8 harg8 arg9 harg9 arg10 harg10 arg11 harg11 arg12 harg12 arg13 harg13 v0 v1198 v1200 v1202 v1203 c1_i32_916) := by
  rw [k0_part39_eq_skeleton]; unfold k0_part39_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part40 (v0 : BitVec 32) (v1188 : FVec F S128x128 .f32) (v1220 : FVec F S128x128 .f32) (v1223 : FVec F S128x128 .f32) (v1233 : FVec F S128x128 .f32) (v1235 : BitVec 32) (c0_i32_944 : BitVec 32) :
    Ok c H bd (k0_part40 (F := F) i arg2 harg2 arg3 harg3 arg4 harg4 arg5 harg5 arg6 harg6 arg7 harg7 arg8 harg8 arg9 harg9 arg10 harg10 arg11 harg11 arg12 harg12 arg13 harg13 v0 v1188 v1220 v1223 v1233 v1235 c0_i32_944) := by
  rw [k0_part40_eq_skeleton]; unfold k0_part40_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part41 (v0 : BitVec 32) (v1263 : FVec F S128x128 .f32) (v1265 : FVec F S128x128 .f32) :
    Ok c H bd (k0_part41 (F := F) i arg2 harg2 arg3 harg3 arg4 harg4 arg5 harg5 arg6 harg6 arg7 harg7 arg8 harg8 arg9 harg9 arg10 harg10 arg11 harg11 arg12 harg12 arg13 harg13 v0 v1263 v1265) := by
  rw [k0_part41_eq_skeleton]; unfold k0_part41_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part42 (v0 : BitVec 32) (v1253 : FVec F S128x128 .f32) (v1285 : FVec F S128x128 .f32) (v1288 : FVec F S128x128 .f32) (v1298 : FVec F S128x128 .f32) :
    Ok c H bd (k0_part42 (F := F) i arg2 harg2 arg3 harg3 arg4 harg4 arg5 harg5 arg6 harg6 arg7 harg7 arg8 harg8 arg9 harg9 arg10 harg10 arg11 harg11 arg12 harg12 arg13 harg13 v0 v1253 v1285 v1288 v1298) := by
  rw [k0_part42_eq_skeleton]; unfold k0_part42_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part43 (v0 : BitVec 32) (v1328 : FVec F S128x128 .f32) :
    Ok c H bd (k0_part43 (F := F) i arg2 harg2 arg3 harg3 arg4 harg4 arg5 harg5 arg6 harg6 arg7 harg7 arg8 harg8 arg9 harg9 arg10 harg10 arg11 harg11 arg12 harg12 arg13 harg13 v0 v1328) := by
  rw [k0_part43_eq_skeleton]; unfold k0_part43_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part44 (v0 : BitVec 32) (v1318 : FVec F S128x128 .f32) (v1350 : FVec F S128x128 .f32) (v1353 : FVec F S128x128 .f32) (v1355 : FVec F S128x256 .bf16) :
    Ok c H bd (k0_part44 (F := F) i arg2 harg2 arg3 harg3 arg4 harg4 arg5 harg5 arg6 harg6 arg7 harg7 arg8 harg8 arg9 harg9 arg10 harg10 arg11 harg11 arg12 harg12 arg13 harg13 v0 v1318 v1350 v1353 v1355) := by
  rw [k0_part44_eq_skeleton]; unfold k0_part44_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part45 (v0 : BitVec 32) (v1385 : FVec F S128x256 .bf16) (v1392 : FVec F S256x128 .bf16) :
    Ok c H bd (k0_part45 (F := F) i arg2 harg2 arg3 harg3 arg4 harg4 arg5 harg5 arg6 harg6 arg7 harg7 arg8 harg8 arg9 harg9 arg10 harg10 arg11 harg11 arg12 harg12 arg13 harg13 v0 v1385 v1392) := by
  rw [k0_part45_eq_skeleton]; unfold k0_part45_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part46 (v0 : BitVec 32) (v1383 : FVec F S128x128 .f32) (v1415 : FVec F S128x128 .f32) (v1418 : FVec F S128x128 .f32) (v1420 : FVec F S128x256 .bf16) (v1423 : BitVec 32) (hloop : ∀ x : F .f32, Ok c H bd (Prog.lift (.call (1 : (Λ₀ F).Label) ⟨i, arg2, harg2, arg3, harg3, arg8, harg8, arg9, harg9, arg6, harg6, arg10, harg10, arg11, harg11, arg12, harg12, arg13, harg13, arg4, harg4, 3#32, x⟩))) :
    Ok c H bd (k0_part46 (F := F) i arg2 harg2 arg3 harg3 arg4 harg4 arg5 harg5 arg6 harg6 arg7 harg7 arg8 harg8 arg9 harg9 arg10 harg10 arg11 harg11 arg12 harg12 arg13 harg13 v0 v1383 v1415 v1418 v1420 v1423) := by
  rw [k0_part46_eq_skeleton]; unfold k0_part46_skel
  repeat' (first
    | with_reducible exact Safe.ret _
    | with_reducible exact hloop _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part47 (v1456 : FVec F S128x128 .f32) :
    Ok c H bd (k0_part47 (F := F) i arg2 harg2 arg3 harg3 arg4 harg4 arg5 harg5 arg6 harg6 arg7 harg7 arg8 harg8 arg9 harg9 arg10 harg10 arg11 harg11 arg12 harg12 arg13 harg13 v1456) := by
  rw [k0_part47_eq_skeleton]; unfold k0_part47_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part48 (v1486 : FVec F S128x128 .f32) (v1487 : Vec F S1x128x128 .f32) :
    Ok c H bd (k0_part48 (F := F) i arg2 harg2 arg3 harg3 arg4 harg4 arg5 harg5 arg6 harg6 arg7 harg7 arg8 harg8 arg9 harg9 arg10 harg10 arg11 harg11 arg12 harg12 arg13 harg13 v1486 v1487) := by
  rw [k0_part48_eq_skeleton]; unfold k0_part48_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part49 (v1518 : FVec F S128x128 .f32) (v1520 : FVec F S128x128 .f32) :
    Ok c H bd (k0_part49 (F := F) i arg2 harg2 arg3 harg3 arg4 harg4 arg5 harg5 arg6 harg6 arg7 harg7 arg8 harg8 arg9 harg9 arg10 harg10 arg11 harg11 arg12 harg12 arg13 harg13 v1518 v1520) := by
  rw [k0_part49_eq_skeleton]; unfold k0_part49_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part51 (arg14 : BitVec 32) (arg15 : F .f32) (v0 : BitVec 32) (hchk : k0_chk1 i arg14) :
    SafeQ (defs₀ (F := F)) Variants.nat (c : Thread nD τ) H bd (fun r => r.2.1 = Scalar.addi arg14 1#32) (k0_part51 (F := F) i arg2 harg2 arg3 harg3 arg8 harg8 arg9 harg9 arg6 harg6 arg10 harg10 arg11 harg11 arg12 harg12 arg13 harg13 arg4 harg4 arg14 arg15 v0) := by
  rw [k0_part51_eq_skeleton]; unfold k0_part51_skel
  repeat' (first
    | with_reducible exact Safe.ret _
    | with_reducible exact SafeQ.ret _ rfl
    | with_reducible exact Safe.assume hchk
    | with_reducible refine SafeQ.bind ?_ fun _ => ?_
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part52 (arg14 : BitVec 32) (arg15 : F .f32) (v0 : BitVec 32) (k0_hw1 : k0_chk1 i arg14) (v1603 : FVec F S128x128 .bf16) (v1604 : BitVec 32) :
    Ok c H bd (k0_part52 (F := F) i arg2 harg2 arg3 harg3 arg8 harg8 arg9 harg9 arg6 harg6 arg10 harg10 arg11 harg11 arg12 harg12 arg13 harg13 arg4 harg4 arg14 arg15 v0 k0_hw1 v1603 v1604) := by
  rw [k0_part52_eq_skeleton]; unfold k0_part52_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part53 (arg14 : BitVec 32) (arg15 : F .f32) (v0 : BitVec 32) (k0_hw1 : k0_chk1 i arg14) (v1634 : FVec F S128x256 .f32) (v1636 : FVec F S128x256 .f32) :
    Ok c H bd (k0_part53 (F := F) i arg2 harg2 arg3 harg3 arg8 harg8 arg9 harg9 arg6 harg6 arg10 harg10 arg11 harg11 arg12 harg12 arg13 harg13 arg4 harg4 arg14 arg15 v0 k0_hw1 v1634 v1636) := by
  rw [k0_part53_eq_skeleton]; unfold k0_part53_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part54 (arg14 : BitVec 32) (arg15 : F .f32) (v0 : BitVec 32) (k0_hw1 : k0_chk1 i arg14) (v1666 : FVec F S128x256 .f32) :
    Ok c H bd (k0_part54 (F := F) i arg2 harg2 arg3 harg3 arg8 harg8 arg9 harg9 arg6 harg6 arg10 harg10 arg11 harg11 arg12 harg12 arg13 harg13 arg4 harg4 arg14 arg15 v0 k0_hw1 v1666) := by
  rw [k0_part54_eq_skeleton]; unfold k0_part54_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part55 (arg14 : BitVec 32) (arg15 : F .f32) (v0 : BitVec 32) (k0_hw1 : k0_chk1 i arg14) (v1699 : FVec F S128x128 .bf16) (v1700 : BitVec 32) :
    Ok c H bd (k0_part55 (F := F) i arg2 harg2 arg3 harg3 arg8 harg8 arg9 harg9 arg6 harg6 arg10 harg10 arg11 harg11 arg12 harg12 arg13 harg13 arg4 harg4 arg14 arg15 v0 k0_hw1 v1699 v1700) := by
  rw [k0_part55_eq_skeleton]; unfold k0_part55_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part56 (arg14 : BitVec 32) (arg15 : F .f32) (v0 : BitVec 32) (k0_hw1 : k0_chk1 i arg14) (v1730 : FVec F S128x256 .f32) (v1732 : FVec F S128x256 .f32) :
    Ok c H bd (k0_part56 (F := F) i arg2 harg2 arg3 harg3 arg8 harg8 arg9 harg9 arg6 harg6 arg10 harg10 arg11 harg11 arg12 harg12 arg13 harg13 arg4 harg4 arg14 arg15 v0 k0_hw1 v1730 v1732) := by
  rw [k0_part56_eq_skeleton]; unfold k0_part56_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part57 (arg14 : BitVec 32) (arg15 : F .f32) (v1762 : FVec F S128x256 .f32) :
    Ok c H bd (k0_part57 (F := F) i arg2 harg2 arg3 harg3 arg8 harg8 arg9 harg9 arg6 harg6 arg10 harg10 arg11 harg11 arg12 harg12 arg13 harg13 arg4 harg4 arg14 arg15 v1762) := by
  rw [k0_part57_eq_skeleton]; unfold k0_part57_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part58 (arg14 : BitVec 32) (arg15 : F .f32) (v1773 : FVec F S1024x384 .f32) (v1796 : FVec F S128x128 .f32) :
    Ok c H bd (k0_part58 (F := F) i arg2 harg2 arg3 harg3 arg8 harg8 arg9 harg9 arg6 harg6 arg10 harg10 arg11 harg11 arg12 harg12 arg13 harg13 arg4 harg4 arg14 arg15 v1773 v1796) := by
  rw [k0_part58_eq_skeleton]; unfold k0_part58_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part59 (arg14 : BitVec 32) (arg15 : F .f32) (v1773 : FVec F S1024x384 .f32) (v1830 : FVec F S128x256 .f32) :
    Ok c H bd (k0_part59 (F := F) i arg2 harg2 arg3 harg3 arg8 harg8 arg9 harg9 arg6 harg6 arg10 harg10 arg11 harg11 arg12 harg12 arg13 harg13 arg4 harg4 arg14 arg15 v1773 v1830) := by
  rw [k0_part59_eq_skeleton]; unfold k0_part59_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part60 (arg14 : BitVec 32) (arg15 : F .f32) (v0 : BitVec 32) (k0_hw1 : k0_chk1 i arg14) (v1773 : FVec F S1024x384 .f32) (v1861 : FVec F S128x128 .f32) :
    Ok c H bd (k0_part60 (F := F) i arg2 harg2 arg3 harg3 arg8 harg8 arg9 harg9 arg6 harg6 arg10 harg10 arg11 harg11 arg12 harg12 arg13 harg13 arg4 harg4 arg14 arg15 v0 k0_hw1 v1773 v1861) := by
  rw [k0_part60_eq_skeleton]; unfold k0_part60_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part61 (arg14 : BitVec 32) (arg15 : F .f32) (v0 : BitVec 32) (k0_hw1 : k0_chk1 i arg14) (v1879 : FVec F S128x128 .f32) (v1881 : FVec F S128x128 .f32) (v1891 : FVec F S128x128 .f32) (v1892 : BitVec 32) :
    Ok c H bd (k0_part61 (F := F) i arg2 harg2 arg3 harg3 arg8 harg8 arg9 harg9 arg6 harg6 arg10 harg10 arg11 harg11 arg12 harg12 arg13 harg13 arg4 harg4 arg14 arg15 v0 k0_hw1 v1879 v1881 v1891 v1892) := by
  rw [k0_part61_eq_skeleton]; unfold k0_part61_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part62 (arg14 : BitVec 32) (arg15 : F .f32) (v0 : BitVec 32) (v1904 : FVec F S128x128 .f32) (v1912 : FVec F S128x128 .f32) (v1914 : FVec F S128x128 .f32) (v1916 : FVec F S128x256 .bf16) (v1923 : FVec F S256x128 .bf16) :
    Ok c H bd (k0_part62 (F := F) i arg2 harg2 arg3 harg3 arg8 harg8 arg9 harg9 arg6 harg6 arg10 harg10 arg11 harg11 arg12 harg12 arg13 harg13 arg4 harg4 arg14 arg15 v0 v1904 v1912 v1914 v1916 v1923) := by
  rw [k0_part62_eq_skeleton]; unfold k0_part62_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part63 (arg14 : BitVec 32) (arg15 : F .f32) (v0 : BitVec 32) (k0_hw1 : k0_chk1 i arg14) (v1944 : FVec F S128x128 .f32) (v1946 : FVec F S128x128 .f32) (v1948 : FVec F S128x128 .f32) (v1950 : FVec F S128x256 .bf16) (v1954 : BitVec 32) :
    Ok c H bd (k0_part63 (F := F) i arg2 harg2 arg3 harg3 arg8 harg8 arg9 harg9 arg6 harg6 arg10 harg10 arg11 harg11 arg12 harg12 arg13 harg13 arg4 harg4 arg14 arg15 v0 k0_hw1 v1944 v1946 v1948 v1950 v1954) := by
  rw [k0_part63_eq_skeleton]; unfold k0_part63_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part64 (arg14 : BitVec 32) (arg15 : F .f32) (v0 : BitVec 32) (k0_hw1 : k0_chk1 i arg14) (v1978 : FVec F S128x128 .f32) (v1980 : FVec F S128x128 .f32) (v1982 : FVec F S128x128 .f32) (v1984 : FVec F S128x256 .bf16) (v1986 : BitVec 32) :
    Ok c H bd (k0_part64 (F := F) i arg2 harg2 arg3 harg3 arg8 harg8 arg9 harg9 arg6 harg6 arg10 harg10 arg11 harg11 arg12 harg12 arg13 harg13 arg4 harg4 arg14 arg15 v0 k0_hw1 v1978 v1980 v1982 v1984 v1986) := by
  rw [k0_part64_eq_skeleton]; unfold k0_part64_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part65 (arg14 : BitVec 32) (arg15 : F .f32) (v0 : BitVec 32) (k0_hw1 : k0_chk1 i arg14) (v2012 : FVec F S128x128 .f32) (v2014 : FVec F S128x128 .f32) (v2016 : FVec F S128x128 .f32) :
    Ok c H bd (k0_part65 (F := F) i arg2 harg2 arg3 harg3 arg8 harg8 arg9 harg9 arg6 harg6 arg10 harg10 arg11 harg11 arg12 harg12 arg13 harg13 arg4 harg4 arg14 arg15 v0 k0_hw1 v2012 v2014 v2016) := by
  rw [k0_part65_eq_skeleton]; unfold k0_part65_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part66 (arg14 : BitVec 32) (arg15 : F .f32) (v0 : BitVec 32) (k0_hw1 : k0_chk1 i arg14) (v2046 : FVec F S128x128 .f32) (v2048 : FVec F S128x128 .f32) :
    Ok c H bd (k0_part66 (F := F) i arg2 harg2 arg3 harg3 arg8 harg8 arg9 harg9 arg6 harg6 arg10 harg10 arg11 harg11 arg12 harg12 arg13 harg13 arg4 harg4 arg14 arg15 v0 k0_hw1 v2046 v2048) := by
  rw [k0_part66_eq_skeleton]; unfold k0_part66_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part67 (arg14 : BitVec 32) (arg15 : F .f32) (v0 : BitVec 32) (k0_hw1 : k0_chk1 i arg14) :
    Ok c H bd (k0_part67 (F := F) i arg2 harg2 arg3 harg3 arg8 harg8 arg9 harg9 arg6 harg6 arg10 harg10 arg11 harg11 arg12 harg12 arg13 harg13 arg4 harg4 arg14 arg15 v0 k0_hw1) := by
  rw [k0_part67_eq_skeleton]; unfold k0_part67_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part68 (arg14 : BitVec 32) (arg15 : F .f32) (v0 : BitVec 32) (k0_hw1 : k0_chk1 i arg14) (v2080 : FVec F S128x128 .f32) (v2107 : FVec F S128x128 .f32) (v2113 : FVec F S1x128x128 .f32) :
    Ok c H bd (k0_part68 (F := F) i arg2 harg2 arg3 harg3 arg8 harg8 arg9 harg9 arg6 harg6 arg10 harg10 arg11 harg11 arg12 harg12 arg13 harg13 arg4 harg4 arg14 arg15 v0 k0_hw1 v2080 v2107 v2113) := by
  rw [k0_part68_eq_skeleton]; unfold k0_part68_skel
  repeat' (first
    | with_reducible exact Safe.ret _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

theorem part50  (hloop : ∀ x : F .f32, Ok c H bd (Prog.lift (.call (1 : (Λ₀ F).Label) ⟨i, arg2, harg2, arg3, harg3, arg8, harg8, arg9, harg9, arg6, harg6, arg10, harg10, arg11, harg11, arg12, harg12, arg13, harg13, arg4, harg4, 3#32, x⟩))) :
    Ok c H bd (k0_part50 (F := F) i arg2 harg2 arg3 harg3 arg4 harg4 arg5 harg5 arg6 harg6 arg7 harg7 arg8 harg8 arg9 harg9 arg10 harg10 arg11 harg11 arg12 harg12 arg13 harg13) := by
  rw [k0_part50_eq_skeleton]; unfold k0_part50_skel
  repeat' (first
    | with_reducible exact Safe.ret _
    | with_reducible exact part1 i arg2 harg2 arg3 harg3 arg4 harg4 arg5 harg5 arg6 harg6 arg7 harg7 arg8 harg8 arg9 harg9 arg10 harg10 arg11 harg11 arg12 harg12 arg13 harg13 hA
    | with_reducible exact part2 i arg2 harg2 arg3 harg3 arg4 harg4 arg5 harg5 arg6 harg6 arg7 harg7 arg8 harg8 arg9 harg9 arg10 harg10 arg11 harg11 arg12 harg12 arg13 harg13 hA _ _
    | with_reducible exact part3 i arg2 harg2 arg3 harg3 arg4 harg4 arg5 harg5 arg6 harg6 arg7 harg7 arg8 harg8 arg9 harg9 arg10 harg10 arg11 harg11 arg12 harg12 arg13 harg13 hA _ _ _ _
    | with_reducible exact part4 i arg2 harg2 arg3 harg3 arg4 harg4 arg5 harg5 arg6 harg6 arg7 harg7 arg8 harg8 arg9 harg9 arg10 harg10 arg11 harg11 arg12 harg12 arg13 harg13 hA _ _ _ _
    | with_reducible exact part5 i arg2 harg2 arg3 harg3 arg4 harg4 arg5 harg5 arg6 harg6 arg7 harg7 arg8 harg8 arg9 harg9 arg10 harg10 arg11 harg11 arg12 harg12 arg13 harg13 hA _ _ _ _ _
    | with_reducible exact part6 i arg2 harg2 arg3 harg3 arg4 harg4 arg5 harg5 arg6 harg6 arg7 harg7 arg8 harg8 arg9 harg9 arg10 harg10 arg11 harg11 arg12 harg12 arg13 harg13 hA _ _ _
    | with_reducible exact part7 i arg2 harg2 arg3 harg3 arg4 harg4 arg5 harg5 arg6 harg6 arg7 harg7 arg8 harg8 arg9 harg9 arg10 harg10 arg11 harg11 arg12 harg12 arg13 harg13 hA _ _ _ _
    | with_reducible exact part8 i arg2 harg2 arg3 harg3 arg4 harg4 arg5 harg5 arg6 harg6 arg7 harg7 arg8 harg8 arg9 harg9 arg10 harg10 arg11 harg11 arg12 harg12 arg13 harg13 hA _ _ _
    | with_reducible exact part9 i arg2 harg2 arg3 harg3 arg4 harg4 arg5 harg5 arg6 harg6 arg7 harg7 arg8 harg8 arg9 harg9 arg10 harg10 arg11 harg11 arg12 harg12 arg13 harg13 hA _ _ _
    | with_reducible exact part10 i arg2 harg2 arg3 harg3 arg4 harg4 arg5 harg5 arg6 harg6 arg7 harg7 arg8 harg8 arg9 harg9 arg10 harg10 arg11 harg11 arg12 harg12 arg13 harg13 hA _
    | with_reducible exact part11 i arg2 harg2 arg3 harg3 arg4 harg4 arg5 harg5 arg6 harg6 arg7 harg7 arg8 harg8 arg9 harg9 arg10 harg10 arg11 harg11 arg12 harg12 arg13 harg13 hA _ _ _
    | with_reducible exact part12 i arg2 harg2 arg3 harg3 arg4 harg4 arg5 harg5 arg6 harg6 arg7 harg7 arg8 harg8 arg9 harg9 arg10 harg10 arg11 harg11 arg12 harg12 arg13 harg13 hA _ _ _
    | with_reducible exact part13 i arg2 harg2 arg3 harg3 arg4 harg4 arg5 harg5 arg6 harg6 arg7 harg7 arg8 harg8 arg9 harg9 arg10 harg10 arg11 harg11 arg12 harg12 arg13 harg13 hA _ _
    | with_reducible exact part14 i arg2 harg2 arg3 harg3 arg4 harg4 arg5 harg5 arg6 harg6 arg7 harg7 arg8 harg8 arg9 harg9 arg10 harg10 arg11 harg11 arg12 harg12 arg13 harg13 hA _ _ _
    | with_reducible exact part15 i arg2 harg2 arg3 harg3 arg4 harg4 arg5 harg5 arg6 harg6 arg7 harg7 arg8 harg8 arg9 harg9 arg10 harg10 arg11 harg11 arg12 harg12 arg13 harg13 hA _ _ _
    | with_reducible exact part16 i arg2 harg2 arg3 harg3 arg4 harg4 arg5 harg5 arg6 harg6 arg7 harg7 arg8 harg8 arg9 harg9 arg10 harg10 arg11 harg11 arg12 harg12 arg13 harg13 hA _ _ _
    | with_reducible exact part17 i arg2 harg2 arg3 harg3 arg4 harg4 arg5 harg5 arg6 harg6 arg7 harg7 arg8 harg8 arg9 harg9 arg10 harg10 arg11 harg11 arg12 harg12 arg13 harg13 hA _ _
    | with_reducible exact part18 i arg2 harg2 arg3 harg3 arg4 harg4 arg5 harg5 arg6 harg6 arg7 harg7 arg8 harg8 arg9 harg9 arg10 harg10 arg11 harg11 arg12 harg12 arg13 harg13 hA _ _ _ _
    | with_reducible exact part19 i arg2 harg2 arg3 harg3 arg4 harg4 arg5 harg5 arg6 harg6 arg7 harg7 arg8 harg8 arg9 harg9 arg10 harg10 arg11 harg11 arg12 harg12 arg13 harg13 hA _ _ _
    | with_reducible exact part20 i arg2 harg2 arg3 harg3 arg4 harg4 arg5 harg5 arg6 harg6 arg7 harg7 arg8 harg8 arg9 harg9 arg10 harg10 arg11 harg11 arg12 harg12 arg13 harg13 hA _
    | with_reducible exact part21 i arg2 harg2 arg3 harg3 arg4 harg4 arg5 harg5 arg6 harg6 arg7 harg7 arg8 harg8 arg9 harg9 arg10 harg10 arg11 harg11 arg12 harg12 arg13 harg13 hA _ _ _
    | with_reducible exact part22 i arg2 harg2 arg3 harg3 arg4 harg4 arg5 harg5 arg6 harg6 arg7 harg7 arg8 harg8 arg9 harg9 arg10 harg10 arg11 harg11 arg12 harg12 arg13 harg13 hA _ _ _ _
    | with_reducible exact part23 i arg2 harg2 arg3 harg3 arg4 harg4 arg5 harg5 arg6 harg6 arg7 harg7 arg8 harg8 arg9 harg9 arg10 harg10 arg11 harg11 arg12 harg12 arg13 harg13 hA _ _ _
    | with_reducible exact part24 i arg2 harg2 arg3 harg3 arg4 harg4 arg5 harg5 arg6 harg6 arg7 harg7 arg8 harg8 arg9 harg9 arg10 harg10 arg11 harg11 arg12 harg12 arg13 harg13 hA _ _
    | with_reducible exact part25 i arg2 harg2 arg3 harg3 arg4 harg4 arg5 harg5 arg6 harg6 arg7 harg7 arg8 harg8 arg9 harg9 arg10 harg10 arg11 harg11 arg12 harg12 arg13 harg13 hA _ _ _
    | with_reducible exact part26 i arg2 harg2 arg3 harg3 arg4 harg4 arg5 harg5 arg6 harg6 arg7 harg7 arg8 harg8 arg9 harg9 arg10 harg10 arg11 harg11 arg12 harg12 arg13 harg13 hA _ _
    | with_reducible exact part27 i arg2 harg2 arg3 harg3 arg4 harg4 arg5 harg5 arg6 harg6 arg7 harg7 arg8 harg8 arg9 harg9 arg10 harg10 arg11 harg11 arg12 harg12 arg13 harg13 hA _ _ _
    | with_reducible exact part28 i arg2 harg2 arg3 harg3 arg4 harg4 arg5 harg5 arg6 harg6 arg7 harg7 arg8 harg8 arg9 harg9 arg10 harg10 arg11 harg11 arg12 harg12 arg13 harg13 hA _ _
    | with_reducible exact part29 i arg2 harg2 arg3 harg3 arg4 harg4 arg5 harg5 arg6 harg6 arg7 harg7 arg8 harg8 arg9 harg9 arg10 harg10 arg11 harg11 arg12 harg12 arg13 harg13 hA _ _ _
    | with_reducible exact part30 i arg2 harg2 arg3 harg3 arg4 harg4 arg5 harg5 arg6 harg6 arg7 harg7 arg8 harg8 arg9 harg9 arg10 harg10 arg11 harg11 arg12 harg12 arg13 harg13 hA _ _
    | with_reducible exact part31 i arg2 harg2 arg3 harg3 arg4 harg4 arg5 harg5 arg6 harg6 arg7 harg7 arg8 harg8 arg9 harg9 arg10 harg10 arg11 harg11 arg12 harg12 arg13 harg13 hA _ _ _ _ _
    | with_reducible exact part32 i arg2 harg2 arg3 harg3 arg4 harg4 arg5 harg5 arg6 harg6 arg7 harg7 arg8 harg8 arg9 harg9 arg10 harg10 arg11 harg11 arg12 harg12 arg13 harg13 hA _ _ _
    | with_reducible exact part33 i arg2 harg2 arg3 harg3 arg4 harg4 arg5 harg5 arg6 harg6 arg7 harg7 arg8 harg8 arg9 harg9 arg10 harg10 arg11 harg11 arg12 harg12 arg13 harg13 hA _ _ _ _ _
    | with_reducible exact part34 i arg2 harg2 arg3 harg3 arg4 harg4 arg5 harg5 arg6 harg6 arg7 harg7 arg8 harg8 arg9 harg9 arg10 harg10 arg11 harg11 arg12 harg12 arg13 harg13 hA _ _ _ _ _
    | with_reducible exact part35 i arg2 harg2 arg3 harg3 arg4 harg4 arg5 harg5 arg6 harg6 arg7 harg7 arg8 harg8 arg9 harg9 arg10 harg10 arg11 harg11 arg12 harg12 arg13 harg13 hA _ _ _ _ _
    | with_reducible exact part36 i arg2 harg2 arg3 harg3 arg4 harg4 arg5 harg5 arg6 harg6 arg7 harg7 arg8 harg8 arg9 harg9 arg10 harg10 arg11 harg11 arg12 harg12 arg13 harg13 hA _ _ _ _
    | with_reducible exact part37 i arg2 harg2 arg3 harg3 arg4 harg4 arg5 harg5 arg6 harg6 arg7 harg7 arg8 harg8 arg9 harg9 arg10 harg10 arg11 harg11 arg12 harg12 arg13 harg13 hA _ _ _ _ _
    | with_reducible exact part38 i arg2 harg2 arg3 harg3 arg4 harg4 arg5 harg5 arg6 harg6 arg7 harg7 arg8 harg8 arg9 harg9 arg10 harg10 arg11 harg11 arg12 harg12 arg13 harg13 hA _ _ _ _ _ _
    | with_reducible exact part39 i arg2 harg2 arg3 harg3 arg4 harg4 arg5 harg5 arg6 harg6 arg7 harg7 arg8 harg8 arg9 harg9 arg10 harg10 arg11 harg11 arg12 harg12 arg13 harg13 hA _ _ _ _ _ _
    | with_reducible exact part40 i arg2 harg2 arg3 harg3 arg4 harg4 arg5 harg5 arg6 harg6 arg7 harg7 arg8 harg8 arg9 harg9 arg10 harg10 arg11 harg11 arg12 harg12 arg13 harg13 hA _ _ _ _ _ _ _
    | with_reducible exact part41 i arg2 harg2 arg3 harg3 arg4 harg4 arg5 harg5 arg6 harg6 arg7 harg7 arg8 harg8 arg9 harg9 arg10 harg10 arg11 harg11 arg12 harg12 arg13 harg13 hA _ _ _
    | with_reducible exact part42 i arg2 harg2 arg3 harg3 arg4 harg4 arg5 harg5 arg6 harg6 arg7 harg7 arg8 harg8 arg9 harg9 arg10 harg10 arg11 harg11 arg12 harg12 arg13 harg13 hA _ _ _ _ _
    | with_reducible exact part43 i arg2 harg2 arg3 harg3 arg4 harg4 arg5 harg5 arg6 harg6 arg7 harg7 arg8 harg8 arg9 harg9 arg10 harg10 arg11 harg11 arg12 harg12 arg13 harg13 hA _ _
    | with_reducible exact part44 i arg2 harg2 arg3 harg3 arg4 harg4 arg5 harg5 arg6 harg6 arg7 harg7 arg8 harg8 arg9 harg9 arg10 harg10 arg11 harg11 arg12 harg12 arg13 harg13 hA _ _ _ _ _
    | with_reducible exact part45 i arg2 harg2 arg3 harg3 arg4 harg4 arg5 harg5 arg6 harg6 arg7 harg7 arg8 harg8 arg9 harg9 arg10 harg10 arg11 harg11 arg12 harg12 arg13 harg13 hA _ _ _
    | with_reducible exact part46 i arg2 harg2 arg3 harg3 arg4 harg4 arg5 harg5 arg6 harg6 arg7 harg7 arg8 harg8 arg9 harg9 arg10 harg10 arg11 harg11 arg12 harg12 arg13 harg13 hA _ _ _ _ _ _ hloop
    | with_reducible exact part47 i arg2 harg2 arg3 harg3 arg4 harg4 arg5 harg5 arg6 harg6 arg7 harg7 arg8 harg8 arg9 harg9 arg10 harg10 arg11 harg11 arg12 harg12 arg13 harg13 hA _
    | with_reducible exact part48 i arg2 harg2 arg3 harg3 arg4 harg4 arg5 harg5 arg6 harg6 arg7 harg7 arg8 harg8 arg9 harg9 arg10 harg10 arg11 harg11 arg12 harg12 arg13 harg13 hA _ _
    | with_reducible exact part49 i arg2 harg2 arg3 harg3 arg4 harg4 arg5 harg5 arg6 harg6 arg7 harg7 arg8 harg8 arg9 harg9 arg10 harg10 arg11 harg11 arg12 harg12 arg13 harg13 hA _ _
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a7 | exact hA.a8 | exact hA.a9 | exact hA.a10 | exact hA.a11 | exact hA.a12 | exact hA.a13) _ _ _ _ _
    | with_reducible refine Safe.bind ?_ fun _ => ?_
    | split)

end Cert.SbFrameIdeal

end
-- ==== Proof.SbFrameIdeal.lean ====
/-
  The frame of the stick-breaking call's program. The body's loop goes down the score tiles two at a time and stops when
  none is left: its counter starts at 3 and is at most 31 where the loop's test holds, so its tile numbers are in range
  and it comes to an end. With that the body is `Safe` for the resource that holds its twelve buffers, and the pipeline's
  run leaves the argument arrays as they were.
-/
module

public import proofs.«01_k».proof.Proof.SbPartsIdeal
public import proofs.«01_k».proof.Proof.Gen.Kernel5Ideal.Launch
public import proofs.«01_k».proof.Proof.Gen.Kernel5Ideal.Points
public import Idealize.ShloMosaic.Lib.Claim

@[expose] public section

set_option maxRecDepth 16384

noncomputable section

namespace Cert.SbFrameIdeal

open Cert.Kernel5Ideal Cert.Kernel5Ideal.Gen Cert.SbSafe
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

/-- The loop's integer test at counter `d`: the counter is at most 31 where it holds. -/
theorem test_lt : ∀ n < 16, ∀ d < 33,
    Scalar.cmpi .sge (Scalar.subi (Scalar.addi (Scalar.muli (BitVec.ofNat 32 n) 2#32) 1#32) (BitVec.ofNat 32 d)) 0#32 = 1#1 → d < 32 := by
  decide +kernel

/-- The number of the tile that the loop reads is in range. -/
theorem tile_le : ∀ n < 16, ∀ d < 32, ∀ r < 2,
    (Scalar.maxsi (Scalar.subi (Scalar.addi (Scalar.muli (BitVec.ofNat 32 n) 2#32) (BitVec.ofNat 32 r)) (BitVec.ofNat 32 d)) 0#32).toNat ≤ 31 := by
  decide +kernel

/-- So is the first of the tile's 256 rows. -/
theorem row_le : ∀ n < 16, ∀ d < 32, ∀ r < 2,
    (Scalar.muli (Scalar.maxsi (Scalar.subi (Scalar.addi (Scalar.muli (BitVec.ofNat 32 n) 2#32) (BitVec.ofNat 32 r)) (BitVec.ofNat 32 d)) 0#32) 256#32).toNat ≤ 7936 := by
  decide +kernel

theorem and_left : ∀ x y : BitVec 1, Scalar.andi x y = 1#1 → x = 1#1 := by decide

/-- The side condition of the loop's loads. -/
theorem chk (i : grid0.Coords) (d : ℕ) (hd : d < 32) : k0_chk1 i (BitVec.ofNat 32 d) := by
  have hn : (i 1).val < 16 := (i 1).isLt
  refine ⟨?_, ?_, ?_, ?_, ?_, ?_, ?_, ?_⟩ <;> intro r a <;>
    first
    | (have h := tile_le _ hn d hd r.val r.isLt
       fin_cases a
       · exact Nat.le_of_ble_eq_true rfl
       · exact Nat.le_of_ble_eq_true rfl
       · exact Nat.add_le_add_right h 1
       · exact Nat.le_of_ble_eq_true rfl
       · exact Nat.le_of_ble_eq_true rfl)
    | (have h := row_le _ hn d hd r.val r.isLt
       fin_cases a
       · exact Nat.le_of_ble_eq_true rfl
       · exact Nat.le_of_ble_eq_true rfl
       · exact Nat.add_le_add_right h 256
       · exact Nat.le_of_ble_eq_true rfl)

section
variable {c : Dev nD} {H : sProp (MT nD τ sig Unit (Elt F) ℕ (UR sig nD τ) ℕ)} {bd : Option Variants.nat.V} (i : grid0.Coords)
  (arg2 : Memref sig .tc .vmem S1x4x256x128 .bf16) (harg2 : arg2.IsWhole)
  (arg3 : Memref sig .tc .vmem S1x4x32x128x256 .bf16) (harg3 : arg3.IsWhole)
  (arg4 : Memref sig .tc .vmem S1x4x8192x128 .bf16) (harg4 : arg4.IsWhole)
  (arg5 : Memref sig .tc .vmem S1x4x256x128 .bf16) (harg5 : arg5.IsWhole)
  (arg6 : Memref sig .tc .vmem S256x384 .bf16) (harg6 : arg6.IsWhole)
  (arg7 : Memref sig .tc .vmem S1x4x256x128 .bf16) (harg7 : arg7.IsWhole)
  (arg8 : Memref sig .tc .vmem S24x128x256 .f32) (harg8 : arg8.IsWhole)
  (arg9 : Memref sig .tc .vmem S3072x256 .bf16) (harg9 : arg9.IsWhole)
  (arg10 : Memref sig .tc .vmem S24x128x256 .bf16) (harg10 : arg10.IsWhole)
  (arg11 : Memref sig .tc .vmem S24x128x128 .f32) (harg11 : arg11.IsWhole)
  (arg12 : Memref sig .tc .vmem S8x128x128 .f32) (harg12 : arg12.IsWhole)
  (arg13 : Memref sig .tc .vmem S8x128x128 .f32) (harg13 : arg13.IsWhole)
  (hA : Held c H arg2 arg3 arg4 arg5 arg6 arg7 arg8 arg9 arg10 arg11 arg12 arg13)

include hA in
/-- The loop's body keeps the buffers, if the loop does from the next counter on. -/
theorem loop_step (arg14 : BitVec 32) (arg15 : F .f32)
    (hgo : Scalar.cmpi .sge (Scalar.subi (Scalar.addi (Scalar.muli (BitVec.ofNat 32 (i 1).val) 2#32) 1#32) arg14) 0#32 = 1#1 →
      k0_chk1 i arg14 ∧ ∀ x : F .f32, Ok c H bd (Prog.lift (.call (1 : (Λ₀ F).Label) ⟨i, arg2, harg2, arg3, harg3, arg8, harg8, arg9, harg9, arg6, harg6, arg10, harg10, arg11, harg11, arg12, harg12, arg13, harg13, arg4, harg4, Scalar.addi arg14 1#32, x⟩))) :
    Ok c H bd (cc0_while1 (F := F) i arg2 harg2 arg3 harg3 arg8 harg8 arg9 harg9 arg6 harg6 arg10 harg10 arg11 harg11 arg12 harg12 arg13 harg13 arg4 harg4 arg14 arg15) := by
  rw [cc0_while1_eq_skeleton]; unfold cc0_while1_skel
  simp only []
  split
  · rename_i h
    obtain ⟨hchk, hrec⟩ := hgo (and_left _ _ h)
    refine Safe.bindQ (part51 i arg2 harg2 arg3 harg3 arg4 harg4 arg5 arg6 harg6 arg7 arg8 harg8 arg9 harg9 arg10 harg10 arg11 harg11 arg12 harg12 arg13 harg13 hA _ _ _ hchk) fun r hr => ?_
    repeat' (first
    | with_reducible exact Safe.ret _
    | with_reducible exact part52 i arg2 harg2 arg3 harg3 arg4 harg4 arg5 arg6 harg6 arg7 arg8 harg8 arg9 harg9 arg10 harg10 arg11 harg11 arg12 harg12 arg13 harg13 hA _ _ _ _ _ _
    | with_reducible exact part53 i arg2 harg2 arg3 harg3 arg4 harg4 arg5 arg6 harg6 arg7 arg8 harg8 arg9 harg9 arg10 harg10 arg11 harg11 arg12 harg12 arg13 harg13 hA _ _ _ _ _ _
    | with_reducible exact part54 i arg2 harg2 arg3 harg3 arg4 harg4 arg5 arg6 harg6 arg7 arg8 harg8 arg9 harg9 arg10 harg10 arg11 harg11 arg12 harg12 arg13 harg13 hA _ _ _ _ _
    | with_reducible exact part55 i arg2 harg2 arg3 harg3 arg4 harg4 arg5 arg6 harg6 arg7 arg8 harg8 arg9 harg9 arg10 harg10 arg11 harg11 arg12 harg12 arg13 harg13 hA _ _ _ _ _ _
    | with_reducible exact part56 i arg2 harg2 arg3 harg3 arg4 harg4 arg5 arg6 harg6 arg7 arg8 harg8 arg9 harg9 arg10 harg10 arg11 harg11 arg12 harg12 arg13 harg13 hA _ _ _ _ _ _
    | with_reducible exact part57 i arg2 harg2 arg3 harg3 arg4 harg4 arg5 arg6 harg6 arg7 arg8 harg8 arg9 harg9 arg10 harg10 arg11 harg11 arg12 harg12 arg13 harg13 hA _ _ _
    | with_reducible exact part58 i arg2 harg2 arg3 harg3 arg4 harg4 arg5 arg6 harg6 arg7 arg8 harg8 arg9 harg9 arg10 harg10 arg11 harg11 arg12 harg12 arg13 harg13 hA _ _ _ _
    | with_reducible exact part59 i arg2 harg2 arg3 harg3 arg4 harg4 arg5 arg6 harg6 arg7 arg8 harg8 arg9 harg9 arg10 harg10 arg11 harg11 arg12 harg12 arg13 harg13 hA _ _ _ _
    | with_reducible exact part60 i arg2 harg2 arg3 harg3 arg4 harg4 arg5 arg6 harg6 arg7 arg8 harg8 arg9 harg9 arg10 harg10 arg11 harg11 arg12 harg12 arg13 harg13 hA _ _ _ _ _ _
    | with_reducible exact part61 i arg2 harg2 arg3 harg3 arg4 harg4 arg5 arg6 harg6 arg7 arg8 harg8 arg9 harg9 arg10 harg10 arg11 harg11 arg12 harg12 arg13 harg13 hA _ _ _ _ _ _ _ _
    | with_reducible exact part62 i arg2 harg2 arg3 harg3 arg4 harg4 arg5 arg6 harg6 arg7 arg8 harg8 arg9 harg9 arg10 harg10 arg11 harg11 arg12 harg12 arg13 harg13 hA _ _ _ _ _ _ _ _
    | with_reducible exact part63 i arg2 harg2 arg3 harg3 arg4 harg4 arg5 arg6 harg6 arg7 arg8 harg8 arg9 harg9 arg10 harg10 arg11 harg11 arg12 harg12 arg13 harg13 hA _ _ _ _ _ _ _ _ _
    | with_reducible exact part64 i arg2 harg2 arg3 harg3 arg4 harg4 arg5 arg6 harg6 arg7 arg8 harg8 arg9 harg9 arg10 harg10 arg11 harg11 arg12 harg12 arg13 harg13 hA _ _ _ _ _ _ _ _ _
    | with_reducible exact part65 i arg2 harg2 arg3 harg3 arg4 harg4 arg5 arg6 harg6 arg7 arg8 harg8 arg9 harg9 arg10 harg10 arg11 harg11 arg12 harg12 arg13 harg13 hA _ _ _ _ _ _ _
    | with_reducible exact part66 i arg2 harg2 arg3 harg3 arg4 harg4 arg5 arg6 harg6 arg7 arg8 harg8 arg9 harg9 arg10 harg10 arg11 harg11 arg12 harg12 arg13 harg13 hA _ _ _ _ _ _
    | with_reducible exact part67 i arg2 harg2 arg3 harg3 arg4 harg4 arg5 arg6 harg6 arg7 arg8 harg8 arg9 harg9 arg10 harg10 arg11 harg11 arg12 harg12 arg13 harg13 hA _ _ _ _
    | with_reducible exact part68 i arg2 harg2 arg3 harg3 arg4 harg4 arg5 arg6 harg6 arg7 arg8 harg8 arg9 harg9 arg10 harg10 arg11 harg11 arg12 harg12 arg13 harg13 hA _ _ _ _ _ _ _
    | (rw [hr]; with_reducible exact hrec _)
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a2 | exact hA.a3 | exact hA.a4 | exact hA.a5 | exact hA.a6 | exact hA.a7 | exact hA.a8 | exact hA.a9 | exact hA.a10 | exact hA.a11 | exact hA.a12 | exact hA.a13) _ _ _ _ _
    | with_reducible refine Safe.bind ?_ fun _ => ?_
    | split)
  · exact Safe.ret _

include hA in
/-- The loop keeps the buffers: by induction on what is left of the counter's range. -/
theorem loop_ok (k : ℕ) : ∀ d, 3 ≤ d → d ≤ 32 → d + k = 40 → ∀ x : F .f32,
    Ok c H (some k) (cc0_while1 (F := F) i arg2 harg2 arg3 harg3 arg8 harg8 arg9 harg9 arg6 harg6 arg10 harg10 arg11 harg11 arg12 harg12 arg13 harg13 arg4 harg4 (BitVec.ofNat 32 d) x) := by
  induction k with
  | zero => intro d _ h1 h2; omega
  | succ k ih =>
    intro d h0 h1 h2 x
    refine loop_step i arg2 harg2 arg3 harg3 arg4 harg4 arg5 arg6 harg6 arg7 arg8 harg8 arg9 harg9 arg10 harg10 arg11 harg11 arg12 harg12 arg13 harg13 hA _ _ fun h => ?_
    have hd : d < 32 := test_lt _ (i 1).isLt d (by omega) h
    refine ⟨chk i d hd, fun x => Safe.call (k : ℕ) (fun u hu => by cases hu; exact Nat.lt_succ_self k) ?_⟩
    have e : Scalar.addi (BitVec.ofNat 32 d) 1#32 = BitVec.ofNat 32 (d + 1) := (BitVec.ofNat_add d 1).symm
    rw [e]
    exact ih (d + 1) (by omega) (by omega) (by omega) x

include harg5 harg7 hA in
/-- The whole body keeps the buffers. -/
theorem body_ok : Ok c H none (cc0_stickbreak (F := F) i arg2 harg2 arg3 harg3 arg4 harg4 arg5 harg5 arg6 harg6 arg7 harg7 arg8 harg8 arg9 harg9 arg10 harg10 arg11 harg11 arg12 harg12 arg13 harg13) := by
  rw [cc0_stickbreak_eq_skeleton]; unfold cc0_stickbreak_skel
  have hloop : ∀ x : F .f32, Ok c H none (Prog.lift (.call (1 : (Λ₀ F).Label) ⟨i, arg2, harg2, arg3, harg3, arg8, harg8, arg9, harg9, arg6, harg6, arg10, harg10, arg11, harg11, arg12, harg12, arg13, harg13, arg4, harg4, 3#32, x⟩)) := fun x =>
    Safe.call (37 : ℕ) (fun u hu => nomatch hu) (loop_ok i arg2 harg2 arg3 harg3 arg4 harg4 arg5 arg6 harg6 arg7 arg8 harg8 arg9 harg9 arg10 harg10 arg11 harg11 arg12 harg12 arg13 harg13 hA 37 3 (by omega) (by omega) (by omega) x)
  repeat' (first
    | with_reducible exact Safe.ret _
    | with_reducible exact part50 i arg2 harg2 arg3 harg3 arg4 harg4 arg5 harg5 arg6 harg6 arg7 harg7 arg8 harg8 arg9 harg9 arg10 harg10 arg11 harg11 arg12 harg12 arg13 harg13 hA hloop
    | with_reducible exact Safe.load (by first | exact hA.a2 | exact hA.a3 | exact hA.a4 | exact hA.a5 | exact hA.a6 | exact hA.a7 | exact hA.a8 | exact hA.a9 | exact hA.a10 | exact hA.a11 | exact hA.a12 | exact hA.a13) _ _
    | with_reducible exact Safe.store (by first | exact hA.a2 | exact hA.a3 | exact hA.a4 | exact hA.a5 | exact hA.a6 | exact hA.a7 | exact hA.a8 | exact hA.a9 | exact hA.a10 | exact hA.a11 | exact hA.a12 | exact hA.a13) _ _ _ _ _
    | with_reducible refine Safe.bind ?_ fun _ => ?_
    | split)

end

/-! ## The resource: the body's twelve buffers -/

section
variable (A2 : Memref sig .tc .vmem S1x4x256x128 .bf16) (A3 : Memref sig .tc .vmem S1x4x32x128x256 .bf16)
  (A4 : Memref sig .tc .vmem S1x4x8192x128 .bf16) (A5 : Memref sig .tc .vmem S1x4x256x128 .bf16)
  (A6 : Memref sig .tc .vmem S256x384 .bf16) (A7 : Memref sig .tc .vmem S1x4x256x128 .bf16)
  (A8 : Memref sig .tc .vmem S24x128x256 .f32) (A9 : Memref sig .tc .vmem S3072x256 .bf16)
  (A10 : Memref sig .tc .vmem S24x128x256 .bf16) (A11 : Memref sig .tc .vmem S24x128x128 .f32)
  (A12 : Memref sig .tc .vmem S8x128x128 .f32) (A13 : Memref sig .tc .vmem S8x128x128 .f32)

/-- The twelve buffers, each owned whole at some contents. -/
def Buffers (c : Dev nD) : sProp (MT nD τ sig Unit (Elt F) ℕ (UR sig nD τ) ℕ) :=
  iprop(own (c : Thread nD τ) A2 ∗ own (c : Thread nD τ) A3 ∗ own (c : Thread nD τ) A4 ∗ own (c : Thread nD τ) A5
    ∗ own (c : Thread nD τ) A6 ∗ own (c : Thread nD τ) A7 ∗ own (c : Thread nD τ) A8 ∗ own (c : Thread nD τ) A9
    ∗ own (c : Thread nD τ) A10 ∗ own (c : Thread nD τ) A11 ∗ own (c : Thread nD τ) A12 ∗ own (c : Thread nD τ) A13)

/-- They hold each of the twelve. -/
theorem buffers_held (c : Dev nD) :
    Held c (Buffers (F := F) A2 A3 A4 A5 A6 A7 A8 A9 A10 A11 A12 A13 c) A2 A3 A4 A5 A6 A7 A8 A9 A10 A11 A12 A13 := by
  constructor <;> unfold Has Buffers
  · iintro ⟨H2, H3, H4, H5, H6, H7, H8, H9, H10, H11, H12, H13⟩
    isplitl [H2]; · iexact H2
    iintro H2
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H3]; · iexact H3
    iintro H3
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H4]; · iexact H4
    iintro H4
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H5]; · iexact H5
    iintro H5
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H6]; · iexact H6
    iintro H6
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H7]; · iexact H7
    iintro H7
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H8]; · iexact H8
    iintro H8
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H9]; · iexact H9
    iintro H9
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H10]; · iexact H10
    iintro H10
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H11]; · iexact H11
    iintro H11
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H12]; · iexact H12
    iintro H12
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨H2, H3, H4, H5, H6, H7, H8, H9, H10, H11, H12, H13⟩
    isplitl [H13]; · iexact H13
    iintro H13
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
end

/-! ## The run -/

variable (m : (ℓ : Loc nD τ sig) → Buf (Elt F) ℓ) (ρ : Dev nD → PrngReg)

/-- The host's operations before the call, stretch by stretch. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- A buffer's contents when the call begins. -/
def V (c : Dev nD) (b : Ref sig .tc) : Buf (Elt F) ((c.tc : Thread nD τ).loc b) :=
  StableHlo.after (opss (F := F)).flatten (fun b => m (c, b)) b

theorem hmain : Pipeline.HMain (Ix := Unit) (Name := ℕ) (U := UR sig nD τ) (Lvl := ℕ) (cfgs (F := F)) 0 (defs₀ (F := F)) Variants.nat m main (V m) :=
  Pipeline.hmain_prefixes cfgs 0 defs₀ Variants.nat m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩
    (by simp only [List.Forall]; repeat' constructor)
    main_chain

/-- The proof data: the arrays as the call finds them; of what the body leaves in a buffer nothing is said; nothing owed;
    full shares. -/
def rdats (c : Dev nD) : RDat τ (Elt F) Unit ℕ (UR sig nD τ) ℕ (cfg0 (F := F)) c where
  A w := V m c (Pipeline.arrRef spec0 w)
  after _ _ _ _ := True
  Φ _ := Pipeline.ΦA spec0 c
  q _ := fullShare
  owed _ := 0

theorem A_eq (c : Dev nD) (w : Fin (cfg0 (F := F)).W) : (rdats m c).A w = V m c (Pipeline.arrRef spec0 w) := by
  dsimp only [rdats]

/-- The buffers at the body's entry at point `t`, and again at its end. -/
theorem sound_body (c : Dev nD) (t : Fin (cfg0 (F := F)).N) (Y : (w : Fin (cfg0 (F := F)).W) → ((cfg0 (F := F)).win w).block.Idx → Elt F ((cfg0 (F := F)).win w).elt) :
    iprop((rdats m c).Φ t.castSucc ∗ (rdats m c).owesAt () t.castSucc
      ∗ owns (c : Thread nD τ) (st0_0 t) fullShare (Y 0) ∗ owns (c : Thread nD τ) (st0_1 t) fullShare (Y 1)
      ∗ owns (c : Thread nD τ) (st0_2 t) fullShare (Y 2) ∗ owns (c : Thread nD τ) (st0_3 t) fullShare (Y 3)
      ∗ owns (c : Thread nD τ) (st0_4 t) fullShare (Y 4) ∗ owns (c : Thread nD τ) (st0_5 t) fullShare (Y 5))
    ⊢ wp frame (wpE (defs₀ (F := F)) Variants.nat c none) Set.univ (bodyAt0 t) fun _ =>
      iprop((rdats m c).Φ t.succ ∗ (rdats m c).owesAt () t.succ
        ∗ (∃ X, ⌜(rdats m c).after 0 t (Y 0) X⌝ ∗ owns (c : Thread nD τ) (st0_0 t) fullShare X)
        ∗ (∃ X, ⌜(rdats m c).after 1 t (Y 1) X⌝ ∗ owns (c : Thread nD τ) (st0_1 t) fullShare X)
        ∗ (∃ X, ⌜(rdats m c).after 2 t (Y 2) X⌝ ∗ owns (c : Thread nD τ) (st0_2 t) fullShare X)
        ∗ (∃ X, ⌜(rdats m c).after 3 t (Y 3) X⌝ ∗ owns (c : Thread nD τ) (st0_3 t) fullShare X)
        ∗ (∃ X, ⌜(rdats m c).after 4 t (Y 4) X⌝ ∗ owns (c : Thread nD τ) (st0_4 t) fullShare X)
        ∗ (∃ X, ⌜(rdats m c).after 5 t (Y 5) X⌝ ∗ owns (c : Thread nD τ) (st0_5 t) fullShare X)) := by
  have hk := body_ok (F := F) (grid0.coords t) _ (hstage0_0 (((cfg0 (F := F)).slots t 0).cast nbuf0_0)) _ (hstage0_1 (((cfg0 (F := F)).slots t 1).cast nbuf0_1))
    _ (hstage0_2 (((cfg0 (F := F)).slots t 2).cast nbuf0_2)) _ (hstage0_3 (((cfg0 (F := F)).slots t 3).cast nbuf0_3))
    _ (hstage0_4 (((cfg0 (F := F)).slots t 4).cast nbuf0_4)) _ (hstage0_5 (((cfg0 (F := F)).slots t 5).cast nbuf0_5))
    _ (Memref.isWhole_whole cc0_scratch0) _ (Memref.isWhole_whole cc0_scratch1) _ (Memref.isWhole_whole cc0_scratch2)
    _ (Memref.isWhole_whole cc0_scratch3) _ (Memref.isWhole_whole cc0_scratch4) _ (Memref.isWhole_whole cc0_scratch5)
    (buffers_held (F := F) _ _ _ _ _ _ _ _ _ _ _ _ c)
  rw [show (rdats m c).Φ t.castSucc = Pipeline.ΦA spec0 c from rfl, show (rdats m c).Φ t.succ = Pipeline.ΦA spec0 c from rfl,
    show (rdats m c).owesAt () t.succ = (rdats m c).owesAt () t.castSucc from rfl]
  unfold Pipeline.ΦA
  rw [scopedRest0_eq c]
  iintro ⟨⟨⟨⟨%f0, S0⟩, ⟨%f1, S1⟩, ⟨%f2, S2⟩, ⟨%f3, S3⟩, ⟨%f4, S4⟩, ⟨%f5, S5⟩⟩, HR⟩, Ho, H0, H1, H2, H3, H4, H5⟩
  iapply (hk _)
  isplitl [S0 S1 S2 S3 S4 S5 H0 H1 H2 H3 H4 H5]
  · unfold Buffers Cert.SbSafe.own
    simp only [owns_whole]
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [S0]; · iexists _; iexact S0
    isplitl [S1]; · iexists _; iexact S1
    isplitl [S2]; · iexists _; iexact S2
    isplitl [S3]; · iexists _; iexact S3
    isplitl [S4]; · iexists _; iexact S4
    iexists _; iexact S5
  iintro %r HB
  unfold Buffers Cert.SbSafe.own
  simp only [owns_whole]
  icases HB with ⟨⟨%x0, H0⟩, ⟨%x1, H1⟩, ⟨%x2, H2⟩, ⟨%x3, H3⟩, ⟨%x4, H4⟩, ⟨%x5, H5⟩, S0, S1, S2, S3, S4, S5⟩
  isplitl [S0 S1 S2 S3 S4 S5 HR]
  · isplitl [S0 S1 S2 S3 S4 S5]
    · isplitl [S0]; · iexact S0
      isplitl [S1]; · iexact S1
      isplitl [S2]; · iexact S2
      isplitl [S3]; · iexact S3
      isplitl [S4]; · iexact S4
      iexact S5
    · iexact HR
  isplitl [Ho]; · iexact Ho
  isplitl [H0]; · iexists x0; isplitr; · ipureintro; trivial
                  iexact H0
  isplitl [H1]; · iexists x1; isplitr; · ipureintro; trivial
                  iexact H1
  isplitl [H2]; · iexists x2; isplitr; · ipureintro; trivial
                  iexact H2
  isplitl [H3]; · iexists x3; isplitr; · ipureintro; trivial
                  iexact H3
  isplitl [H4]; · iexists x4; isplitr; · ipureintro; trivial
                  iexact H4
  iexists x5; isplitr; · ipureintro; trivial
  iexact H5

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : (rdats (F := F) m c).BodyObligation (defs₀ (F := F)) Variants.nat () Set.univ := fun t Y _ => by
  rw [bigSep_W0, bigSep_W0, defs₀_row]
  exact triple_restated (sound_body m c t Y) rfl (Entails.refl _) fun _ => Entails.refl _

set_option backward.isDefEq.respectTransparency.types false in
set_option maxHeartbeats 800000 in
/-- The program runs to an end with every counter at zero. -/
theorem run_main : θ_run defs (onTc (τ := τ) (main (F := F))) (s₀ m ρ) (fun r => (Pipeline.RDat.FramePost cfg0 (rdats m) (V m)) r ∧ r.2.sem = fun _ => 0) :=
  Pipeline.RDat.θ_run_frame (Q' := _) cfgs (0 : Fin 1) launch0 defs₀ Variants.nat (rdats m) m ρ main
    (hbody := body_obligation m) (hshare := fun c => (rdats m c).share_full fun _ => rfl)
    (howed := fun _ _ => rfl) (V := V m) (hmain := hmain m) (hA := A_eq m) (hΦ := fun _ _ => rfl)

theorem V_arg0 (c : Dev nD) : V m c main_arg0 = m ((c.tc : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_arg1 (c : Dev nD) : V m c main_arg1 = m ((c.tc : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_arg2 (c : Dev nD) : V m c main_arg2 = m ((c.tc : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_arg3 (c : Dev nD) : V m c main_arg3 = m ((c.tc : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (show ∀ w : Fin 6, (spec0 w).arr.view.ref ≠ main_arg0 by decide))).trans (V_arg0 m c),
     ((h.1 c).2 main_arg1 (Pipeline.mem_restRefs_of main_arg1 (by decide) (show ∀ w : Fin 6, (spec0 w).arr.view.ref ≠ main_arg1 by decide))).trans (V_arg1 m c),
     ((h.1 c).2 main_arg2 (Pipeline.mem_restRefs_of main_arg2 (by decide) (show ∀ w : Fin 6, (spec0 w).arr.view.ref ≠ main_arg2 by decide))).trans (V_arg2 m c),
     ((h.1 c).2 main_arg3 (Pipeline.mem_restRefs_of main_arg3 (by decide) (show ∀ w : Fin 6, (spec0 w).arr.view.ref ≠ main_arg3 by decide))).trans (V_arg3 m c)⟩, h.2⟩) (run_main m ρ)

end Cert.SbFrameIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Pre_above_minus_infinity
public import proofs.«01_k».proof.Proof.AdaLn
public import proofs.«01_k».proof.Proof.InProj
public import proofs.«01_k».proof.Proof.InRun
public import proofs.«01_k».proof.Proof.OutProj
public import proofs.«01_k».proof.Proof.RefFrames
public import proofs.«01_k».proof.Proof.SbFrame
public import proofs.«01_k».proof.Proof.SbFrameIdeal
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxHeartbeats 2000000 in
/-- The input projection: the call's six result arrays are the reference's values of the same arguments. -/
theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g & Cert.Kernel2Ideal.Gen.unchanged m g
  · refine θ_run_mono (Cert.InProj.Ref.run m' g') ?_
    intro r hr c
    obtain ⟨h52, h53, h54, h56, h57, h58, h0, h1, h2, h3⟩ := hr c
    obtain ⟨a0, a1, a2, a3⟩ := hagree c
    rw [a0, a1, a2, a3] at h52 h53 h54 h56 h57 h58
    exact ⟨h52.trans (Cert.InProj.final7 m c).symm, h53.trans (Cert.InProj.final8 m c).symm,
      h54.trans (Cert.InProj.final9 m c).symm, h56.trans (Cert.InProj.final10 m c).symm,
      h57.trans (Cert.InProj.final11 m c).symm, h58.trans (Cert.InProj.final12 m c).symm, h0, h1, h2, h3⟩

/-- The output projection: the call's result array is the reference's value of the same arguments. -/
theorem algebraic3 : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · run_from Cert.Reference3Ideal.Value.run m' g'
    exact (Cert.OutProj.final m c).symm

/-- The modulation vectors: where no entry of `c` is minus infinity, the call's result array is the reference's value of
    the same arguments. -/
theorem algebraic4 : Cert.algebraic_Kernel4Ideal_Reference4Ideal_pre_above_minus_infinity (hKernel4Ideal := Cert.Kernel4Ideal.Gen.facts)
    (hReference4Ideal := Cert.Reference4Ideal.Gen.facts) (hPre_above_minus_infinity := Cert.Pre_above_minus_infinity.Gen.facts) := by
  pair_intro
  · run_from Cert.Kernel4Ideal.Gen.run_main m g
  · run_from Cert.Reference4Ideal.Value.run m' g'
    exact (Cert.AdaLn.final m hpre c).symm

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Pre_above_minus_infinity.Gen.facts,
   fun m ρ _ => Cert.Kernel.Gen.frame m ρ, fun m ρ _ => Cert.KernelIdeal.Gen.frame m ρ, Cert.RefFrames.frame1,
   fun m ρ _ => Cert.Kernel2.Gen.frame m ρ, fun m ρ _ => Cert.Kernel2Ideal.Gen.frame m ρ, Cert.RefFrames.frame2,
   fun m ρ _ => Cert.Kernel3.Gen.frame m ρ, fun m ρ _ => Cert.Kernel3Ideal.Gen.frame m ρ, Cert.RefFrames.frame3,
   fun m ρ _ => Cert.Kernel4.Gen.frame m ρ, fun m ρ _ => Cert.Kernel4Ideal.Gen.frame m ρ, fun m ρ _ => Cert.Kernel4Ideal.Gen.frame m ρ,
   Cert.RefFrames.frame4, fun m ρ _ => Cert.RefFrames.frame4 m ρ trivial,
   fun m ρ _ => Cert.SbFrame.frame m ρ, fun m ρ _ => Cert.SbFrameIdeal.frame m ρ,
   trivial, trivial, algebraic2, trivial, algebraic3, trivial, algebraic4, trivial⟩

end Cert.Proof

end
